-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_u_finite [hPre_u_finite : Cert.Pre_u_finite.Facts] (m : (ℓ : Loc Cert.KernelIdeal.nD Cert.KernelIdeal.τ Cert.KernelIdeal.sig) → Buf (Elt Ideal) ℓ) : Prop :=
  ∀ c : Dev Cert.KernelIdeal.nD,
    (Cert.Pre_u_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_u_finite [hPre_u_finite : Cert.Pre_u_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_u_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_u_finite [hKernelIdeal : Cert.KernelIdeal.Facts] [hPre_u_finite : Cert.Pre_u_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_u_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_u_finite [hReferenceIdeal : Cert.ReferenceIdeal.Facts] [hPre_u_finite : Cert.Pre_u_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_u_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_u_finite [hKernelIdeal : Cert.KernelIdeal.Facts] [hReferenceIdeal : Cert.ReferenceIdeal.Facts] [hPre_u_finite : Cert.Pre_u_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_u_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)) (v6 : (c : Dev Cert.KernelIdeal.nD) → Buf (Elt Ideal) ((c.tc : Thread Cert.KernelIdeal.nD Cert.KernelIdeal.τ).loc Cert.KernelIdeal.main_v1_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_v1_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_v1_5) = v5 c
          ∧ r.2.mem ((c.tc : Thread Cert.ReferenceIdeal.nD Cert.ReferenceIdeal.τ).loc Cert.ReferenceIdeal.main_v1_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_u_finite : Cert.Pre_u_finite.Facts),
    quiescent_Kernel (hKernel := hKernel)
    ∧ quiescent_KernelIdeal (hKernelIdeal := hKernelIdeal)
    ∧ quiescent_KernelIdeal_pre_u_finite (hKernelIdeal := hKernelIdeal) (hPre_u_finite := hPre_u_finite)
    ∧ quiescent_ReferenceIdeal (hReferenceIdeal := hReferenceIdeal)
    ∧ quiescent_ReferenceIdeal_pre_u_finite (hReferenceIdeal := hReferenceIdeal) (hPre_u_finite := hPre_u_finite)
    ∧ preserves_Kernel_KernelIdeal
    ∧ algebraic_KernelIdeal_ReferenceIdeal_pre_u_finite (hKernelIdeal := hKernelIdeal) (hReferenceIdeal := hReferenceIdeal) (hPre_u_finite := hPre_u_finite)
-- ==== Pre_u_finite.lean ====
abbrev S1x4096x7936 : Shape := ⟨3, ![1, 4096, 7936]⟩
abbrev S6448x7936 : Shape := ⟨2, ![6448, 7936]⟩
abbrev S51x62 : Shape := ⟨2, ![51, 62]⟩
abbrev S_ : Shape := ⟨0, ![]⟩

class Facts : Prop where
  bcast_S_S1x4096x7936 : S_.BroadcastsInDim S1x4096x7936 (![] : Fin 0 → Fin S1x4096x7936.rank)

variable [Facts]

def fn {F : FTy → Type} [FloatOps F] (main_arg0 : FVec F S1x4096x7936 .bf16) (main_arg1 : FVec F S6448x7936 .fp8e4m3) (main_arg2 : FVec F S51x62 .f32) : IVec S1x4096x7936 1 :=
  let main_v0 : FVec F S1x4096x7936 .bf16 := Host.absf main_arg0
  let main_cst : FVec F S_ .bf16 := constant S_ .bf16 0x7F7F#16
  let main_v1 : FVec F S1x4096x7936 .bf16 := broadcastInDim S1x4096x7936 ![] bcast_S_S1x4096x7936 main_cst
  let main_v2 : IVec S1x4096x7936 1 := cmpf .ole main_v0 main_v1
  main_v2
-- ==== Kernel.lean ====
abbrev S1x4096x7936 : Shape := ⟨3, ![1, 4096, 7936]⟩
abbrev S6448x7936 : Shape := ⟨2, ![6448, 7936]⟩
abbrev S51x62 : Shape := ⟨2, ![51, 62]⟩
abbrev S4096x7936 : Shape := ⟨2, ![4096, 7936]⟩
abbrev S4096x3072 : Shape := ⟨2, ![4096, 3072]⟩
abbrev S4096x128 : Shape := ⟨2, ![4096, 128]⟩
abbrev S4096x48 : Shape := ⟨2, ![4096, 48]⟩
abbrev S4096x62 : Shape := ⟨2, ![4096, 62]⟩
abbrev S512x7936 : Shape := ⟨2, ![512, 7936]⟩
abbrev S512x512 : Shape := ⟨2, ![512, 512]⟩
abbrev S512x128 : Shape := ⟨2, ![512, 128]⟩
abbrev S512x48 : Shape := ⟨2, ![512, 48]⟩
abbrev S512x62 : Shape := ⟨2, ![512, 62]⟩
abbrev S32x62 : Shape := ⟨2, ![32, 62]⟩
abbrev S32x128 : Shape := ⟨2, ![32, 128]⟩
abbrev S32 : Shape := ⟨1, ![32]⟩
abbrev S32x1 : Shape := ⟨2, ![32, 1]⟩
abbrev S32x255 : Shape := ⟨2, ![32, 255]⟩
abbrev S1x1 : Shape := ⟨2, ![1, 1]⟩
abbrev S128x128 : Shape := ⟨2, ![128, 128]⟩

abbrev nBuf : Space → Nat
  | .hbm => 11
  | .vmem => 20
  | .smem => 1
  | _ => 0

abbrev bufTy : (tb : Table) → Fin (tcTables nBuf tb) → BufTy
  | .hbm, ⟨0, _⟩ => ⟨S1x4096x7936, .bf16⟩
  | .hbm, ⟨1, _⟩ => ⟨S6448x7936, .fp8e4m3⟩
  | .hbm, ⟨2, _⟩ => ⟨S51x62, .f32⟩
  | .hbm, ⟨3, _⟩ => ⟨S4096x7936, .bf16⟩
  | .hbm, ⟨4, _⟩ => ⟨S4096x3072, .bf16⟩
  | .hbm, ⟨5, _⟩ => ⟨S4096x3072, .bf16⟩
  | .hbm, ⟨6, _⟩ => ⟨S4096x128, .bf16⟩
  | .hbm, ⟨7, _⟩ => ⟨S4096x128, .bf16⟩
  | .hbm, ⟨8, _⟩ => ⟨S4096x48, .bf16⟩
  | .hbm, ⟨9, _⟩ => ⟨S4096x7936, .fp8e4m3⟩
  | .hbm, ⟨10, _⟩ => ⟨S4096x62, .f32⟩
  | .local _ .vmem, ⟨0, _⟩ => ⟨S512x7936, .bf16⟩
  | .local _ .vmem, ⟨1, _⟩ => ⟨S512x7936, .bf16⟩
  | .local _ .vmem, ⟨2, _⟩ => ⟨S512x7936, .fp8e4m3⟩
  | .local _ .vmem, ⟨3, _⟩ => ⟨S512x7936, .fp8e4m3⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x48, .bf16⟩
  | .local _ .vmem, ⟨13, _⟩ => ⟨S512x48, .bf16⟩
  | .local _ .vmem, ⟨14, _⟩ => ⟨S512x7936, .fp8e4m3⟩
  | .local _ .vmem, ⟨15, _⟩ => ⟨S512x7936, .fp8e4m3⟩
  | .local _ .vmem, ⟨16, _⟩ => ⟨S512x62, .f32⟩
  | .local _ .vmem, ⟨17, _⟩ => ⟨S512x62, .f32⟩
  | .local _ .vmem, ⟨18, _⟩ => ⟨S512x7936, .bf16⟩
  | .local _ .vmem, ⟨19, _⟩ => ⟨S512x7936, .bf16⟩
  | .local _ .smem, ⟨0, _⟩ => ⟨S51x62, .f32⟩
  | _, _ => ⟨S1x4096x7936, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev main_v1_6 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 13], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_1134 : BitVec 32 := 0#32
  let c16_i32 : BitVec 32 := 16#32
  let v2509 : BitVec 32 := Scalar.addi c0_i32_1134 c16_i32
  let c1_i32_1135 : BitVec 32 := 1#32
  ⟨c0_i32_1134, v2509, c1_i32_1135⟩
def k0_mult1 (k0_t1 : Fin k0_t1_loop.trips) : BitVec 32 :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  v2510
def k0_off1 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v2514 : Index := Scalar.indexCast v2511
  let c0_1138 : Index := 0#32
  ![v2514.toNat, 0]
def k0_off2 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v2576 : Index := Scalar.indexCast v2511
  let c128_1154 : Index := 128#32
  ![v2576.toNat, 128]
def k0_off3 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v2638 : Index := Scalar.indexCast v2511
  let c256_1174 : Index := 256#32
  ![v2638.toNat, 256]
def k0_off4 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v2700 : Index := Scalar.indexCast v2511
  let c384_1194 : Index := 384#32
  ![v2700.toNat, 384]
def k0_off5 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v2762 : Index := Scalar.indexCast v2511
  let c512_1214 : Index := 512#32
  ![v2762.toNat, 512]
def k0_off6 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v2824 : Index := Scalar.indexCast v2511
  let c640_1234 : Index := 640#32
  ![v2824.toNat, 640]
def k0_off7 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v2886 : Index := Scalar.indexCast v2511
  let c768_1253 : Index := 768#32
  ![v2886.toNat, 768]
def k0_off8 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v2948 : Index := Scalar.indexCast v2511
  let c896_1273 : Index := 896#32
  ![v2948.toNat, 896]
def k0_off9 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v3010 : Index := Scalar.indexCast v2511
  let c1024_1292 : Index := 1024#32
  ![v3010.toNat, 1024]
def k0_off10 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v3072 : Index := Scalar.indexCast v2511
  let c1152_1311 : Index := 1152#32
  ![v3072.toNat, 1152]
def k0_off11 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v3134 : Index := Scalar.indexCast v2511
  let c1280_1330 : Index := 1280#32
  ![v3134.toNat, 1280]
def k0_off12 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v3196 : Index := Scalar.indexCast v2511
  let c1408_1349 : Index := 1408#32
  ![v3196.toNat, 1408]
def k0_off13 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v3258 : Index := Scalar.indexCast v2511
  let c1536_1368 : Index := 1536#32
  ![v3258.toNat, 1536]
def k0_off14 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v3320 : Index := Scalar.indexCast v2511
  let c1664_1388 : Index := 1664#32
  ![v3320.toNat, 1664]
def k0_off15 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v3382 : Index := Scalar.indexCast v2511
  let c1792_1407 : Index := 1792#32
  ![v3382.toNat, 1792]
def k0_off16 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v3444 : Index := Scalar.indexCast v2511
  let c1920_1426 : Index := 1920#32
  ![v3444.toNat, 1920]
def k0_off17 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v3506 : Index := Scalar.indexCast v2511
  let c2048_1445 : Index := 2048#32
  ![v3506.toNat, 2048]
def k0_off18 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v3568 : Index := Scalar.indexCast v2511
  let c2176_1465 : Index := 2176#32
  ![v3568.toNat, 2176]
def k0_off19 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v3630 : Index := Scalar.indexCast v2511
  let c2304_1484 : Index := 2304#32
  ![v3630.toNat, 2304]
def k0_off20 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v3692 : Index := Scalar.indexCast v2511
  let c2432_1503 : Index := 2432#32
  ![v3692.toNat, 2432]
def k0_off21 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v3754 : Index := Scalar.indexCast v2511
  let c2560_1522 : Index := 2560#32
  ![v3754.toNat, 2560]
def k0_off22 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v3816 : Index := Scalar.indexCast v2511
  let c2688_1541 : Index := 2688#32
  ![v3816.toNat, 2688]
def k0_off23 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v3878 : Index := Scalar.indexCast v2511
  let c2816_1560 : Index := 2816#32
  ![v3878.toNat, 2816]
def k0_off24 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v3940 : Index := Scalar.indexCast v2511
  let c2944_1579 : Index := 2944#32
  ![v3940.toNat, 2944]
def k0_off25 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v4002 : Index := Scalar.indexCast v2511
  let c3072_1599 : Index := 3072#32
  ![v4002.toNat, 3072]
def k0_off26 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v4064 : Index := Scalar.indexCast v2511
  let c3200_1618 : Index := 3200#32
  ![v4064.toNat, 3200]
def k0_off27 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v4126 : Index := Scalar.indexCast v2511
  let c3328_1637 : Index := 3328#32
  ![v4126.toNat, 3328]
def k0_off28 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v4188 : Index := Scalar.indexCast v2511
  let c3456_1656 : Index := 3456#32
  ![v4188.toNat, 3456]
def k0_off29 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v4250 : Index := Scalar.indexCast v2511
  let c3584_1675 : Index := 3584#32
  ![v4250.toNat, 3584]
def k0_off30 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v4312 : Index := Scalar.indexCast v2511
  let c3712_1694 : Index := 3712#32
  ![v4312.toNat, 3712]
def k0_off31 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v4374 : Index := Scalar.indexCast v2511
  let c3840_1713 : Index := 3840#32
  ![v4374.toNat, 3840]
def k0_off32 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v4436 : Index := Scalar.indexCast v2511
  let c3968_1732 : Index := 3968#32
  ![v4436.toNat, 3968]
def k0_off33 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v4498 : Index := Scalar.indexCast v2511
  let c4096_1751 : Index := 4096#32
  ![v4498.toNat, 4096]
def k0_off34 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v4560 : Index := Scalar.indexCast v2511
  let c4224_1771 : Index := 4224#32
  ![v4560.toNat, 4224]
def k0_off35 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v4622 : Index := Scalar.indexCast v2511
  let c4352_1790 : Index := 4352#32
  ![v4622.toNat, 4352]
def k0_off36 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v4684 : Index := Scalar.indexCast v2511
  let c4480_1809 : Index := 4480#32
  ![v4684.toNat, 4480]
def k0_off37 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v4746 : Index := Scalar.indexCast v2511
  let c4608_1828 : Index := 4608#32
  ![v4746.toNat, 4608]
def k0_off38 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v4808 : Index := Scalar.indexCast v2511
  let c4736_1847 : Index := 4736#32
  ![v4808.toNat, 4736]
def k0_off39 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v4870 : Index := Scalar.indexCast v2511
  let c4864_1866 : Index := 4864#32
  ![v4870.toNat, 4864]
def k0_off40 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v4932 : Index := Scalar.indexCast v2511
  let c4992_1885 : Index := 4992#32
  ![v4932.toNat, 4992]
def k0_off41 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v4994 : Index := Scalar.indexCast v2511
  let c5120_1904 : Index := 5120#32
  ![v4994.toNat, 5120]
def k0_off42 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v5056 : Index := Scalar.indexCast v2511
  let c5248_1923 : Index := 5248#32
  ![v5056.toNat, 5248]
def k0_off43 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v5118 : Index := Scalar.indexCast v2511
  let c5376_1942 : Index := 5376#32
  ![v5118.toNat, 5376]
def k0_off44 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v5180 : Index := Scalar.indexCast v2511
  let c5504_1961 : Index := 5504#32
  ![v5180.toNat, 5504]
def k0_off45 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v5242 : Index := Scalar.indexCast v2511
  let c5632_1980 : Index := 5632#32
  ![v5242.toNat, 5632]
def k0_off46 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v5304 : Index := Scalar.indexCast v2511
  let c5760_1999 : Index := 5760#32
  ![v5304.toNat, 5760]
def k0_off47 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v5366 : Index := Scalar.indexCast v2511
  let c5888_2018 : Index := 5888#32
  ![v5366.toNat, 5888]
def k0_off48 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v5428 : Index := Scalar.indexCast v2511
  let c6016_2037 : Index := 6016#32
  ![v5428.toNat, 6016]
def k0_off49 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v5490 : Index := Scalar.indexCast v2511
  let c6144_2056 : Index := 6144#32
  ![v5490.toNat, 6144]
def k0_off50 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v5552 : Index := Scalar.indexCast v2511
  let c6272_2075 : Index := 6272#32
  ![v5552.toNat, 6272]
def k0_off51 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v5614 : Index := Scalar.indexCast v2511
  let c6400_2094 : Index := 6400#32
  ![v5614.toNat, 6400]
def k0_off52 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v5676 : Index := Scalar.indexCast v2511
  let c6528_2114 : Index := 6528#32
  ![v5676.toNat, 6528]
def k0_off53 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v5738 : Index := Scalar.indexCast v2511
  let c6656_2133 : Index := 6656#32
  ![v5738.toNat, 6656]
def k0_off54 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v5800 : Index := Scalar.indexCast v2511
  let c6784_2152 : Index := 6784#32
  ![v5800.toNat, 6784]
def k0_off55 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v5862 : Index := Scalar.indexCast v2511
  let c6912_2171 : Index := 6912#32
  ![v5862.toNat, 6912]
def k0_off56 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v5924 : Index := Scalar.indexCast v2511
  let c7040_2190 : Index := 7040#32
  ![v5924.toNat, 7040]
def k0_off57 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v5986 : Index := Scalar.indexCast v2511
  let c7168_2209 : Index := 7168#32
  ![v5986.toNat, 7168]
def k0_off58 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v6048 : Index := Scalar.indexCast v2511
  let c7296_2228 : Index := 7296#32
  ![v6048.toNat, 7296]
def k0_off59 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v6110 : Index := Scalar.indexCast v2511
  let c7424_2247 : Index := 7424#32
  ![v6110.toNat, 7424]
def k0_off60 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v6172 : Index := Scalar.indexCast v2511
  let c7552_2266 : Index := 7552#32
  ![v6172.toNat, 7552]
def k0_off61 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v6234 : Index := Scalar.indexCast v2511
  let c7680_2285 : Index := 7680#32
  ![v6234.toNat, 7680]
def k0_off62 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v6296 : Index := Scalar.indexCast v2511
  let c7808_2304 : Index := 7808#32
  ![v6296.toNat, 7808]
def k0_off63 (k0_t1 : Fin k0_t1_loop.trips) : Fin 2 → Nat :=
  let c0_i32_1134 : BitVec 32 := 0#32
  let c1_i32_1135 : BitVec 32 := 1#32
  let arg14 : BitVec 32 := Scf.iv c0_i32_1134 c1_i32_1135 k0_t1
  let c32_i32 : BitVec 32 := 32#32
  let v2510 : BitVec 32 := Scalar.muli arg14 c32_i32
  let v2511 : BitVec 32 := v2510
  let v6358 : Index := Scalar.indexCast v2511
  let c0_2323 : Index := 0#32
  ![v6358.toNat, 0]
def k0_off64 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v6 : Index := Scalar.indexCast v5
  let c0 : Index := 0#32
  ![v6.toNat, 0]
def k0_off65 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v16 : Index := Scalar.indexCast v5
  let c1 : Index := 1#32
  ![v16.toNat, 1]
def k0_off66 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v26 : Index := Scalar.indexCast v5
  let c2 : Index := 2#32
  ![v26.toNat, 2]
def k0_off67 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v36 : Index := Scalar.indexCast v5
  let c3 : Index := 3#32
  ![v36.toNat, 3]
def k0_off68 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v46 : Index := Scalar.indexCast v5
  let c4 : Index := 4#32
  ![v46.toNat, 4]
def k0_off69 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v56 : Index := Scalar.indexCast v5
  let c5 : Index := 5#32
  ![v56.toNat, 5]
def k0_off70 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v66 : Index := Scalar.indexCast v5
  let c6 : Index := 6#32
  ![v66.toNat, 6]
def k0_off71 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v76 : Index := Scalar.indexCast v5
  let c7 : Index := 7#32
  ![v76.toNat, 7]
def k0_off72 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v86 : Index := Scalar.indexCast v5
  let c8 : Index := 8#32
  ![v86.toNat, 8]
def k0_off73 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v96 : Index := Scalar.indexCast v5
  let c9 : Index := 9#32
  ![v96.toNat, 9]
def k0_off74 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v106 : Index := Scalar.indexCast v5
  let c10 : Index := 10#32
  ![v106.toNat, 10]
def k0_off75 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v116 : Index := Scalar.indexCast v5
  let c11 : Index := 11#32
  ![v116.toNat, 11]
def k0_off76 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v126 : Index := Scalar.indexCast v5
  let c12 : Index := 12#32
  ![v126.toNat, 12]
def k0_off77 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v136 : Index := Scalar.indexCast v5
  let c13 : Index := 13#32
  ![v136.toNat, 13]
def k0_off78 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v146 : Index := Scalar.indexCast v5
  let c14 : Index := 14#32
  ![v146.toNat, 14]
def k0_off79 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v156 : Index := Scalar.indexCast v5
  let c15 : Index := 15#32
  ![v156.toNat, 15]
def k0_off80 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v166 : Index := Scalar.indexCast v5
  let c16 : Index := 16#32
  ![v166.toNat, 16]
def k0_off81 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v176 : Index := Scalar.indexCast v5
  let c17 : Index := 17#32
  ![v176.toNat, 17]
def k0_off82 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v186 : Index := Scalar.indexCast v5
  let c18 : Index := 18#32
  ![v186.toNat, 18]
def k0_off83 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v196 : Index := Scalar.indexCast v5
  let c19 : Index := 19#32
  ![v196.toNat, 19]
def k0_off84 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v206 : Index := Scalar.indexCast v5
  let c20 : Index := 20#32
  ![v206.toNat, 20]
def k0_off85 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v216 : Index := Scalar.indexCast v5
  let c21 : Index := 21#32
  ![v216.toNat, 21]
def k0_off86 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v226 : Index := Scalar.indexCast v5
  let c22 : Index := 22#32
  ![v226.toNat, 22]
def k0_off87 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v236 : Index := Scalar.indexCast v5
  let c23 : Index := 23#32
  ![v236.toNat, 23]
def k0_off88 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v246 : Index := Scalar.indexCast v5
  let c24 : Index := 24#32
  ![v246.toNat, 24]
def k0_off89 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v256 : Index := Scalar.indexCast v5
  let c25 : Index := 25#32
  ![v256.toNat, 25]
def k0_off90 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v266 : Index := Scalar.indexCast v5
  let c26 : Index := 26#32
  ![v266.toNat, 26]
def k0_off91 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v276 : Index := Scalar.indexCast v5
  let c27 : Index := 27#32
  ![v276.toNat, 27]
def k0_off92 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v286 : Index := Scalar.indexCast v5
  let c28 : Index := 28#32
  ![v286.toNat, 28]
def k0_off93 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v296 : Index := Scalar.indexCast v5
  let c29 : Index := 29#32
  ![v296.toNat, 29]
def k0_off94 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v306 : Index := Scalar.indexCast v5
  let c30 : Index := 30#32
  ![v306.toNat, 30]
def k0_off95 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v316 : Index := Scalar.indexCast v5
  let c31 : Index := 31#32
  ![v316.toNat, 31]
def k0_off96 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v326 : Index := Scalar.indexCast v5
  let c32 : Index := 32#32
  ![v326.toNat, 32]
def k0_off97 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v336 : Index := Scalar.indexCast v5
  let c33 : Index := 33#32
  ![v336.toNat, 33]
def k0_off98 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v346 : Index := Scalar.indexCast v5
  let c34 : Index := 34#32
  ![v346.toNat, 34]
def k0_off99 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v356 : Index := Scalar.indexCast v5
  let c35 : Index := 35#32
  ![v356.toNat, 35]
def k0_off100 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v366 : Index := Scalar.indexCast v5
  let c36 : Index := 36#32
  ![v366.toNat, 36]
def k0_off101 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v376 : Index := Scalar.indexCast v5
  let c37 : Index := 37#32
  ![v376.toNat, 37]
def k0_off102 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v386 : Index := Scalar.indexCast v5
  let c38 : Index := 38#32
  ![v386.toNat, 38]
def k0_off103 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v396 : Index := Scalar.indexCast v5
  let c39 : Index := 39#32
  ![v396.toNat, 39]
def k0_off104 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v406 : Index := Scalar.indexCast v5
  let c40 : Index := 40#32
  ![v406.toNat, 40]
def k0_off105 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v416 : Index := Scalar.indexCast v5
  let c41 : Index := 41#32
  ![v416.toNat, 41]
def k0_off106 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v426 : Index := Scalar.indexCast v5
  let c42 : Index := 42#32
  ![v426.toNat, 42]
def k0_off107 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v436 : Index := Scalar.indexCast v5
  let c43 : Index := 43#32
  ![v436.toNat, 43]
def k0_off108 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v446 : Index := Scalar.indexCast v5
  let c44 : Index := 44#32
  ![v446.toNat, 44]
def k0_off109 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v456 : Index := Scalar.indexCast v5
  let c45 : Index := 45#32
  ![v456.toNat, 45]
def k0_off110 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v466 : Index := Scalar.indexCast v5
  let c46 : Index := 46#32
  ![v466.toNat, 46]
def k0_off111 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v476 : Index := Scalar.indexCast v5
  let c47 : Index := 47#32
  ![v476.toNat, 47]
def k0_off112 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v486 : Index := Scalar.indexCast v5
  let c48 : Index := 48#32
  ![v486.toNat, 48]
def k0_off113 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v496 : Index := Scalar.indexCast v5
  let c49 : Index := 49#32
  ![v496.toNat, 49]
def k0_off114 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v506 : Index := Scalar.indexCast v5
  let c50 : Index := 50#32
  ![v506.toNat, 50]
def k0_off115 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v516 : Index := Scalar.indexCast v5
  let c51 : Index := 51#32
  ![v516.toNat, 51]
def k0_off116 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v526 : Index := Scalar.indexCast v5
  let c52 : Index := 52#32
  ![v526.toNat, 52]
def k0_off117 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v536 : Index := Scalar.indexCast v5
  let c53 : Index := 53#32
  ![v536.toNat, 53]
def k0_off118 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v546 : Index := Scalar.indexCast v5
  let c54 : Index := 54#32
  ![v546.toNat, 54]
def k0_off119 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v556 : Index := Scalar.indexCast v5
  let c55 : Index := 55#32
  ![v556.toNat, 55]
def k0_off120 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v566 : Index := Scalar.indexCast v5
  let c56 : Index := 56#32
  ![v566.toNat, 56]
def k0_off121 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v576 : Index := Scalar.indexCast v5
  let c57 : Index := 57#32
  ![v576.toNat, 57]
def k0_off122 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v586 : Index := Scalar.indexCast v5
  let c58 : Index := 58#32
  ![v586.toNat, 58]
def k0_off123 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v596 : Index := Scalar.indexCast v5
  let c59 : Index := 59#32
  ![v596.toNat, 59]
def k0_off124 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v606 : Index := Scalar.indexCast v5
  let c60 : Index := 60#32
  ![v606.toNat, 60]
def k0_off125 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let c50_i32 : BitVec 32 := 50#32
  let v5 : BitVec 32 := Scalar.minsi v4 c50_i32
  let v616 : Index := Scalar.indexCast v5
  let c61 : Index := 61#32
  ![v616.toNat, 61]
def k0_cond2 (i : grid0.Coords) : BitVec 1 :=
  let arg1 : BitVec 32 := BitVec.ofNat 32 (i 1).val
  let c6_i32 : BitVec 32 := 6#32
  let v2498 : BitVec 1 := Scalar.cmpi .slt arg1 c6_i32
  let v2499 : BitVec 32 := Scalar.extui v2498
  let c0_i32_1129 : BitVec 32 := 0#32
  let v2500 : BitVec 1 := Scalar.cmpi .ne v2499 c0_i32_1129
  v2500

def k0_cond3 (i : grid0.Coords) : BitVec 1 :=
  let arg1 : BitVec 32 := BitVec.ofNat 32 (i 1).val
  let c6_i32_1130 : BitVec 32 := 6#32
  let v2501 : BitVec 1 := Scalar.cmpi .sge arg1 c6_i32_1130
  let c12_i32 : BitVec 32 := 12#32
  let v2502 : BitVec 1 := Scalar.cmpi .slt arg1 c12_i32
  let v2503 : BitVec 1 := Scalar.andi v2501 v2502
  let v2504 : BitVec 32 := Scalar.extui v2503
  let c0_i32_1131 : BitVec 32 := 0#32
  let v2505 : BitVec 1 := Scalar.cmpi .ne v2504 c0_i32_1131
  v2505

def k0_cond4 (i : grid0.Coords) : BitVec 1 :=
  let arg1 : BitVec 32 := BitVec.ofNat 32 (i 1).val
  let c12_i32_1132 : BitVec 32 := 12#32
  let v2506 : BitVec 1 := Scalar.cmpi .eq arg1 c12_i32_1132
  let v2507 : BitVec 32 := Scalar.extui v2506
  let c0_i32_1133 : BitVec 32 := 0#32
  let v2508 : BitVec 1 := Scalar.cmpi .ne v2507 c0_i32_1133
  v2508

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S51x62 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x7936 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x7936 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x48 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x7936 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x62 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S1x4096x7936 : Shape := ⟨3, ![1, 4096, 7936]⟩
abbrev S6448x7936 : Shape := ⟨2, ![6448, 7936]⟩
abbrev S51x62 : Shape := ⟨2, ![51, 62]⟩
abbrev S4096x7936 : Shape := ⟨2, ![4096, 7936]⟩
abbrev S4096x3072 : Shape := ⟨2, ![4096, 3072]⟩
abbrev S4096x128 : Shape := ⟨2, ![4096, 128]⟩
abbrev S4096x48 : Shape := ⟨2, ![4096, 48]⟩
abbrev S4096x62 : Shape := ⟨2, ![4096, 62]⟩
abbrev S4096x62x128 : Shape := ⟨3, ![4096, 62, 128]⟩
abbrev S4096x62x1 : Shape := ⟨3, ![4096, 62, 1]⟩
abbrev S51x1x62 : Shape := ⟨3, ![51, 1, 62]⟩
abbrev S51x128x62 : Shape := ⟨3, ![51, 128, 62]⟩
abbrev S6528x62 : Shape := ⟨2, ![6528, 62]⟩
abbrev S6448x62 : Shape := ⟨2, ![6448, 62]⟩
abbrev S6448x62x128 : Shape := ⟨3, ![6448, 62, 128]⟩
abbrev S6448x62x1 : Shape := ⟨3, ![6448, 62, 1]⟩
abbrev S4096x6448 : Shape := ⟨2, ![4096, 6448]⟩

abbrev nBuf : Space → Nat
  | .hbm => 11
  | .vmem => 10
  | .smem => 0
  | _ => 0

abbrev bufTy : (tb : Table) → Fin (tcTables nBuf tb) → BufTy
  | .hbm, ⟨0, _⟩ => ⟨S1x4096x7936, .bf16⟩
  | .hbm, ⟨1, _⟩ => ⟨S6448x7936, .fp8e4m3⟩
  | .hbm, ⟨2, _⟩ => ⟨S51x62, .f32⟩
  | .hbm, ⟨3, _⟩ => ⟨S4096x7936, .bf16⟩
  | .hbm, ⟨4, _⟩ => ⟨S4096x3072, .bf16⟩
  | .hbm, ⟨5, _⟩ => ⟨S4096x3072, .bf16⟩
  | .hbm, ⟨6, _⟩ => ⟨S4096x128, .bf16⟩
  | .hbm, ⟨7, _⟩ => ⟨S4096x128, .bf16⟩
  | .hbm, ⟨8, _⟩ => ⟨S4096x48, .bf16⟩
  | .hbm, ⟨9, _⟩ => ⟨S4096x7936, .fp8e4m3⟩
  | .hbm, ⟨10, _⟩ => ⟨S4096x62, .f32⟩
  | .local _ .vmem, ⟨0, _⟩ => ⟨S4096x7936, .bf16⟩
  | .local _ .vmem, ⟨1, _⟩ => ⟨S6448x7936, .fp8e4m3⟩
  | .local _ .vmem, ⟨2, _⟩ => ⟨S51x62, .f32⟩
  | .local _ .vmem, ⟨3, _⟩ => ⟨S4096x3072, .bf16⟩
  | .local _ .vmem, ⟨4, _⟩ => ⟨S4096x3072, .bf16⟩
  | .local _ .vmem, ⟨5, _⟩ => ⟨S4096x128, .bf16⟩
  | .local _ .vmem, ⟨6, _⟩ => ⟨S4096x128, .bf16⟩
  | .local _ .vmem, ⟨7, _⟩ => ⟨S4096x48, .bf16⟩
  | .local _ .vmem, ⟨8, _⟩ => ⟨S4096x7936, .fp8e4m3⟩
  | .local _ .vmem, ⟨9, _⟩ => ⟨S4096x62, .f32⟩
  | _, _ => ⟨S1x4096x7936, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev main_v1_6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "ln_2" => some ((Real.log 2 : ℝ) : EReal)
  | _ => none

abbrev grid0 : Pipeline.Grid := .none

abbrev stage0_0 : Fin 1 → Memref sig .tc .vmem S4096x7936 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6448x7936 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S51x62 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x48 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x7936 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x62 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Ideal.Body.lean ====
module

public import proofs.«01_k».proof.Proof.Gen.KernelIdeal.Loops
public import proofs.«01_k».proof.Proof.Gen.KernelIdeal.Frame

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F]

local notation "𝕄" => MT nD τ sig Unit (Elt F) ℕ (UR sig nD τ) ℕ

/-- A memref's buffer held whole, at contents `f`. -/
abbrev pt {sp : Space} {s : Shape} {e : EltTy} (c : Dev nD) (M : Memref sig .tc sp s e) (f : BufTy.Contents (Elt F) M.view.ty) : sProp 𝕄 :=
  M.view.loc (c : Thread nD τ) ↦[M.view.set]{fullShare} f

section
variable (c : Dev nD) (i : grid0.Coords)
  {arg2 : Memref sig .tc .smem S51x62 .f32} (harg2 : arg2.IsWhole)
  {arg3 : Memref sig .tc .vmem S512x7936 .bf16} (harg3 : arg3.IsWhole)
  {arg4 : Memref sig .tc .vmem S512x7936 .fp8e4m3} (harg4 : arg4.IsWhole)
  {arg5 : Memref sig .tc .vmem S512x512 .bf16} (harg5 : arg5.IsWhole)
  {arg6 : Memref sig .tc .vmem S512x512 .bf16} (harg6 : arg6.IsWhole)
  {arg7 : Memref sig .tc .vmem S512x128 .bf16} (harg7 : arg7.IsWhole)
  {arg8 : Memref sig .tc .vmem S512x128 .bf16} (harg8 : arg8.IsWhole)
  {arg9 : Memref sig .tc .vmem S512x48 .bf16} (harg9 : arg9.IsWhole)
  {arg10 : Memref sig .tc .vmem S512x7936 .fp8e4m3} (harg10 : arg10.IsWhole)
  {arg11 : Memref sig .tc .vmem S512x62 .f32} (harg11 : arg11.IsWhole)
  {arg12 : Memref sig .tc .vmem S512x7936 .bf16} (harg12 : arg12.IsWhole)
  {arg13 : Memref sig .tc .vmem S512x7936 .bf16} (harg13 : arg13.IsWhole)

/-- The kernel's body on these buffers. -/
abbrev bodyOn : Prog (TpuEff nD τ sig (Elt F) Λ₀ .tc) PUnit :=
  cc0_in_proj (F := F) i arg2 harg2 arg3 harg3 arg4 harg4 arg5 harg5 arg6 harg6 arg7 harg7 arg8 harg8 arg9 harg9 arg10 harg10 arg11 harg11 arg12 harg12 arg13 harg13

/-- What the row block's quantiser leaves: the pieces the loop's trips store into the codes, the scales and the dequantised copy. -/
abbrev pieces (h1 : k0_cond1 i = 1#1) (X3 : BufTy.Contents (Elt F) arg3.view.ty) :=
  pb_k0_t1 (F := F) Variants.none c none i arg2 harg2 arg3 harg3 arg4 harg4 arg5 harg5 arg6 harg6 arg7 harg7 arg8 harg8 arg9 harg9 arg10 harg10 arg11 harg11 arg12 harg12 arg13 harg13 h1 X3 k0_t1_loop.trips

/-- The body at the first tile of a row block: the row block is quantised, then the tile of `z` is stored. -/
def runA (h1 : k0_cond1 i = 1#1) (h2 : k0_cond2 i = 1#1) (h3 : ¬ k0_cond3 i = 1#1) (h4 : ¬ k0_cond4 i = 1#1)
    (X2 : BufTy.Contents (Elt F) arg2.view.ty) (X3 : BufTy.Contents (Elt F) arg3.view.ty) (X4 : BufTy.Contents (Elt F) arg4.view.ty)
    (X12 : BufTy.Contents (Elt F) arg12.view.ty) :
    Σ' (L13 : List (View.Piece (Elt F) S512x7936 .bf16)), { L5 : List (View.Piece (Elt F) S512x512 .bf16) //
      ∀ (E : Set ℕ) (f5 : BufTy.Contents (Elt F) arg5.view.ty) (f10 : BufTy.Contents (Elt F) arg10.view.ty) (f11 : BufTy.Contents (Elt F) arg11.view.ty) (X13 : BufTy.Contents (Elt F) arg13.view.ty),
      iprop(pt c arg2 X2 ∗ pt c arg3 X3 ∗ pt c arg4 X4 ∗ pt c arg5 f5 ∗ pt c arg10 f10 ∗ pt c arg11 f11 ∗ pt c arg12 X12 ∗ pt c arg13 X13) ⊢
      wp frame (wpE (defs₀ (F := F)) Variants.none (c : Thread nD τ) none) E (bodyOn (F := F) i harg2 harg3 harg4 harg5 harg6 harg7 harg8 harg9 harg10 harg11 harg12 harg13)
        (fun _ => iprop(pt c arg2 X2 ∗ pt c arg3 X3 ∗ pt c arg4 X4 ∗ pt c arg5 (arg5.view.writes (Elt F) f5 L5)
          ∗ pt c arg10 (arg10.view.writes (Elt F) f10 (pieces c i harg2 harg3 harg4 harg5 harg6 harg7 harg8 harg9 harg10 harg11 harg12 harg13 h1 X3).1)
          ∗ pt c arg11 (arg11.view.writes (Elt F) f11 (pieces c i harg2 harg3 harg4 harg5 harg6 harg7 harg8 harg9 harg10 harg11 harg12 harg13 h1 X3).2.1)
          ∗ pt c arg12 (arg12.view.writes (Elt F) X12 (pieces c i harg2 harg3 harg4 harg5 harg6 harg7 harg8 harg9 harg10 harg11 harg12 harg13 h1 X3).2.2)
          ∗ pt c arg13 (arg13.view.writes (Elt F) X13 L13))) } := by
  refine ⟨?_, ?_, fun E f5 f10 f11 X13 => ?run⟩
  case run =>
    unfold bodyOn
    iintro ⟨H2, H3, H4, H5, H10, H11, H12, H13⟩
    sl_exec
    sl_step
    sl_close

/-- The body at a later tile of `z`. -/
def runB (h1 : ¬ k0_cond1 i = 1#1) (h2 : k0_cond2 i = 1#1) (h3 : ¬ k0_cond3 i = 1#1) (h4 : ¬ k0_cond4 i = 1#1)
    (X2 : BufTy.Contents (Elt F) arg2.view.ty) (X4 : BufTy.Contents (Elt F) arg4.view.ty) (X12 : BufTy.Contents (Elt F) arg12.view.ty) :
    Σ' (L13 : List (View.Piece (Elt F) S512x7936 .bf16)) , { L5 : List (View.Piece (Elt F) S512x512 .bf16) //
      ∀ (E : Set ℕ) (f5 : BufTy.Contents (Elt F) arg5.view.ty) (X13 : BufTy.Contents (Elt F) arg13.view.ty),
      iprop(pt c arg2 X2 ∗ pt c arg4 X4 ∗ pt c arg5 f5 ∗ pt c arg12 X12 ∗ pt c arg13 X13) ⊢
      wp frame (wpE (defs₀ (F := F)) Variants.none (c : Thread nD τ) none) E (bodyOn (F := F) i harg2 harg3 harg4 harg5 harg6 harg7 harg8 harg9 harg10 harg11 harg12 harg13)
        (fun _ => iprop(pt c arg2 X2 ∗ pt c arg4 X4 ∗ pt c arg5 (arg5.view.writes (Elt F) f5 L5) ∗ pt c arg12 X12 ∗ pt c arg13 (arg13.view.writes (Elt F) X13 L13))) } := by
  refine ⟨?_, ?_, fun E f5 X13 => ?run⟩
  case run =>
    unfold bodyOn
    iintro ⟨H2, H4, H5, H12, H13⟩
    sl_exec
    sl_step
    sl_close

/-- The body at a tile of `x`. -/
def runC (h1 : ¬ k0_cond1 i = 1#1) (h2 : ¬ k0_cond2 i = 1#1) (h3 : k0_cond3 i = 1#1) (h4 : ¬ k0_cond4 i = 1#1)
    (X2 : BufTy.Contents (Elt F) arg2.view.ty) (X4 : BufTy.Contents (Elt F) arg4.view.ty) (X12 : BufTy.Contents (Elt F) arg12.view.ty) :
    Σ' (L13 : List (View.Piece (Elt F) S512x7936 .bf16)) , { L6 : List (View.Piece (Elt F) S512x512 .bf16) //
      ∀ (E : Set ℕ) (f6 : BufTy.Contents (Elt F) arg6.view.ty) (X13 : BufTy.Contents (Elt F) arg13.view.ty),
      iprop(pt c arg2 X2 ∗ pt c arg4 X4 ∗ pt c arg6 f6 ∗ pt c arg12 X12 ∗ pt c arg13 X13) ⊢
      wp frame (wpE (defs₀ (F := F)) Variants.none (c : Thread nD τ) none) E (bodyOn (F := F) i harg2 harg3 harg4 harg5 harg6 harg7 harg8 harg9 harg10 harg11 harg12 harg13)
        (fun _ => iprop(pt c arg2 X2 ∗ pt c arg4 X4 ∗ pt c arg6 (arg6.view.writes (Elt F) f6 L6) ∗ pt c arg12 X12 ∗ pt c arg13 (arg13.view.writes (Elt F) X13 L13))) } := by
  refine ⟨?_, ?_, fun E f6 X13 => ?run⟩
  case run =>
    unfold bodyOn
    iintro ⟨H2, H4, H6, H12, H13⟩
    sl_exec
    sl_step
    sl_close

/-- The body at the last tile: `B`, `C` and `dt` are stored. -/
def runD (h1 : ¬ k0_cond1 i = 1#1) (h2 : ¬ k0_cond2 i = 1#1) (h3 : ¬ k0_cond3 i = 1#1) (h4 : k0_cond4 i = 1#1)
    (X2 : BufTy.Contents (Elt F) arg2.view.ty) (X4 : BufTy.Contents (Elt F) arg4.view.ty) (X12 : BufTy.Contents (Elt F) arg12.view.ty) :
    Σ' (L13 : List (View.Piece (Elt F) S512x7936 .bf16)) (L7 : List (View.Piece (Elt F) S512x128 .bf16)) (L8 : List (View.Piece (Elt F) S512x128 .bf16)), { L9 : List (View.Piece (Elt F) S512x48 .bf16) //
      ∀ (E : Set ℕ) (f7 : BufTy.Contents (Elt F) arg7.view.ty) (f8 : BufTy.Contents (Elt F) arg8.view.ty) (f9 : BufTy.Contents (Elt F) arg9.view.ty) (X13 : BufTy.Contents (Elt F) arg13.view.ty),
      iprop(pt c arg2 X2 ∗ pt c arg4 X4 ∗ pt c arg7 f7 ∗ pt c arg8 f8 ∗ pt c arg9 f9 ∗ pt c arg12 X12 ∗ pt c arg13 X13) ⊢
      wp frame (wpE (defs₀ (F := F)) Variants.none (c : Thread nD τ) none) E (bodyOn (F := F) i harg2 harg3 harg4 harg5 harg6 harg7 harg8 harg9 harg10 harg11 harg12 harg13)
        (fun _ => iprop(pt c arg2 X2 ∗ pt c arg4 X4 ∗ pt c arg7 (arg7.view.writes (Elt F) f7 L7) ∗ pt c arg8 (arg8.view.writes (Elt F) f8 L8) ∗ pt c arg9 (arg9.view.writes (Elt F) f9 L9) ∗ pt c arg12 X12 ∗ pt c arg13 (arg13.view.writes (Elt F) X13 L13))) } := by
  refine ⟨?_, ?_, ?_, ?_, fun E f7 f8 f9 X13 => ?run⟩
  case run =>
    unfold bodyOn
    iintro ⟨H2, H4, H7, H8, H9, H12, H13⟩
    sl_exec
    sl_step
    sl_close

end

end Cert.KernelIdeal.Hand

end
-- ==== Proof.Ideal.Frame.lean ====
module

public import proofs.«01_k».proof.Proof.Ideal.Body

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F]

local notation "𝕄" => MT nD τ sig Unit (Elt F) ℕ (UR sig nD τ) ℕ

/-- At every grid point exactly one of the body's four courses is taken. -/
theorem courses (i : grid0.Coords) :
    (k0_cond1 i = 1#1 ∧ k0_cond2 i = 1#1 ∧ ¬ k0_cond3 i = 1#1 ∧ ¬ k0_cond4 i = 1#1)
    ∨ (¬ k0_cond1 i = 1#1 ∧ k0_cond2 i = 1#1 ∧ ¬ k0_cond3 i = 1#1 ∧ ¬ k0_cond4 i = 1#1)
    ∨ (¬ k0_cond1 i = 1#1 ∧ ¬ k0_cond2 i = 1#1 ∧ k0_cond3 i = 1#1 ∧ ¬ k0_cond4 i = 1#1)
    ∨ (¬ k0_cond1 i = 1#1 ∧ ¬ k0_cond2 i = 1#1 ∧ ¬ k0_cond3 i = 1#1 ∧ k0_cond4 i = 1#1) := by
  obtain ⟨j, hj⟩ : ∃ j : Fin 13, i 1 = j := ⟨i 1, rfl⟩
  unfold k0_cond1 k0_cond2 k0_cond3 k0_cond4
  rw [hj]
  clear hj
  revert j
  decide

section
variable (c : Dev nD) (i : grid0.Coords)
  {arg2 : Memref sig .tc .smem S51x62 .f32} (harg2 : arg2.IsWhole)
  {arg3 : Memref sig .tc .vmem S512x7936 .bf16} (harg3 : arg3.IsWhole)
  {arg4 : Memref sig .tc .vmem S512x7936 .fp8e4m3} (harg4 : arg4.IsWhole)
  {arg5 : Memref sig .tc .vmem S512x512 .bf16} (harg5 : arg5.IsWhole)
  {arg6 : Memref sig .tc .vmem S512x512 .bf16} (harg6 : arg6.IsWhole)
  {arg7 : Memref sig .tc .vmem S512x128 .bf16} (harg7 : arg7.IsWhole)
  {arg8 : Memref sig .tc .vmem S512x128 .bf16} (harg8 : arg8.IsWhole)
  {arg9 : Memref sig .tc .vmem S512x48 .bf16} (harg9 : arg9.IsWhole)
  {arg10 : Memref sig .tc .vmem S512x7936 .fp8e4m3} (harg10 : arg10.IsWhole)
  {arg11 : Memref sig .tc .vmem S512x62 .f32} (harg11 : arg11.IsWhole)
  {arg12 : Memref sig .tc .vmem S512x7936 .bf16} (harg12 : arg12.IsWhole)
  {arg13 : Memref sig .tc .vmem S512x7936 .bf16} (harg13 : arg13.IsWhole)

/-- The body at any grid point leaves the three inputs as they were. -/
theorem body_any (E : Set ℕ)
    (f2 : BufTy.Contents (Elt F) arg2.view.ty)
    (f3 : BufTy.Contents (Elt F) arg3.view.ty)
    (f4 : BufTy.Contents (Elt F) arg4.view.ty)
    (f5 : BufTy.Contents (Elt F) arg5.view.ty)
    (f6 : BufTy.Contents (Elt F) arg6.view.ty)
    (f7 : BufTy.Contents (Elt F) arg7.view.ty)
    (f8 : BufTy.Contents (Elt F) arg8.view.ty)
    (f9 : BufTy.Contents (Elt F) arg9.view.ty)
    (f10 : BufTy.Contents (Elt F) arg10.view.ty)
    (f11 : BufTy.Contents (Elt F) arg11.view.ty)
    (f12 : BufTy.Contents (Elt F) arg12.view.ty)
    (f13 : BufTy.Contents (Elt F) arg13.view.ty)
    : iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13)
      ⊢ wp frame (wpE (defs₀ (F := F)) Variants.none (c : Thread nD τ) none) E (bodyOn (F := F) i harg2 harg3 harg4 harg5 harg6 harg7 harg8 harg9 harg10 harg11 harg12 harg13)
        (fun _ => iprop(pt c arg2 f2 ∗ pt c arg3 f3 ∗ pt c arg4 f4 ∗ (∃ f, pt c arg5 f) ∗ (∃ f, pt c arg6 f) ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f))) := by
  iintro ⟨H2, H3, H4, H5, H6, H7, H8, H9, H10, H11, H12, H13⟩
  rcases courses i with ⟨h1, h2, h3, h4⟩ | ⟨h1, h2, h3, h4⟩ | ⟨h1, h2, h3, h4⟩ | ⟨h1, h2, h3, h4⟩
  · iapply (wp_wand_r frame (wpE (defs₀ (F := F)) Variants.none (c : Thread nD τ) none) E)
    isplitl [H2 H3 H4 H5 H10 H11 H12 H13]
    · iapply ((runA c i harg2 harg3 harg4 harg5 harg6 harg7 harg8 harg9 harg10 harg11 harg12 harg13 h1 h2 h3 h4 f2 f3 f4 f12).2.2 E f5 f10 f11 f13)
      isplitl [H2]; · iexact H2
      isplitl [H3]; · iexact H3
      isplitl [H4]; · iexact H4
      isplitl [H5]; · iexact H5
      isplitl [H10]; · iexact H10
      isplitl [H11]; · iexact H11
      isplitl [H12]; · iexact H12
      iexact H13
    iintro %_ ⟨H2, H3, H4, H5, H10, H11, H12, H13⟩
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13
  · iapply (wp_wand_r frame (wpE (defs₀ (F := F)) Variants.none (c : Thread nD τ) none) E)
    isplitl [H2 H4 H5 H12 H13]
    · iapply ((runB c i harg2 harg3 harg4 harg5 harg6 harg7 harg8 harg9 harg10 harg11 harg12 harg13 h1 h2 h3 h4 f2 f4 f12).2.2 E f5 f13)
      isplitl [H2]; · iexact H2
      isplitl [H4]; · iexact H4
      isplitl [H5]; · iexact H5
      isplitl [H12]; · iexact H12
      iexact H13
    iintro %_ ⟨H2, H4, H5, H12, H13⟩
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13
  · iapply (wp_wand_r frame (wpE (defs₀ (F := F)) Variants.none (c : Thread nD τ) none) E)
    isplitl [H2 H4 H6 H12 H13]
    · iapply ((runC c i harg2 harg3 harg4 harg5 harg6 harg7 harg8 harg9 harg10 harg11 harg12 harg13 h1 h2 h3 h4 f2 f4 f12).2.2 E f6 f13)
      isplitl [H2]; · iexact H2
      isplitl [H4]; · iexact H4
      isplitl [H6]; · iexact H6
      isplitl [H12]; · iexact H12
      iexact H13
    iintro %_ ⟨H2, H4, H6, H12, H13⟩
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13
  · iapply (wp_wand_r frame (wpE (defs₀ (F := F)) Variants.none (c : Thread nD τ) none) E)
    isplitl [H2 H4 H7 H8 H9 H12 H13]
    · iapply ((runD c i harg2 harg3 harg4 harg5 harg6 harg7 harg8 harg9 harg10 harg11 harg12 harg13 h1 h2 h3 h4 f2 f4 f12).2.2.2.2 E f7 f8 f9 f13)
      isplitl [H2]; · iexact H2
      isplitl [H4]; · iexact H4
      isplitl [H7]; · iexact H7
      isplitl [H8]; · iexact H8
      isplitl [H9]; · iexact H9
      isplitl [H12]; · iexact H12
      iexact H13
    iintro %_ ⟨H2, H4, H7, H8, H9, H12, H13⟩
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end

section
variable (m : (ℓ : Loc nD τ sig) → Buf (Elt F) ℓ) (ρ : Dev nD → PrngReg)

/-- The pipeline's proof data for the frame: the inputs' buffers hold their blocks; of the outputs' nothing is said. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (cfg0.win 2).fill (cfg0.grid.coords t) (fun _ => Classical.arbitrary _) (iblk m c 2 t)
    | ⟨3, _⟩ => fun _ => Classical.arbitrary _
    | ⟨4, _⟩ => fun _ => Classical.arbitrary _
    | ⟨5, _⟩ => fun _ => Classical.arbitrary _
    | ⟨6, _⟩ => fun _ => Classical.arbitrary _
    | ⟨7, _⟩ => fun _ => Classical.arbitrary _
    | ⟨8, _⟩ => fun _ => Classical.arbitrary _
    | ⟨9, _⟩ => fun _ => Classical.arbitrary _
  Φ _ := Pipeline.ΦA spec0 c
  q _ := fullShare
  owed _ := 0

theorem fA_eq (c : Dev nD) (w : Fin cfg0.W) : (fdats m 0 c).A w = V m c (Pipeline.arrRef spec0 w) := by
  dsimp only [fdats]
theorem fafter0 (c : Dev nD) (t : Fin cfg0.N) : (fdats m 0 c).after 0 t = iblk m c 0 t := by dsimp only [fdats]
theorem fafter1 (c : Dev nD) (t : Fin cfg0.N) : (fdats m 0 c).after 1 t = iblk m c 1 t := by dsimp only [fdats]
theorem fafter2 (c : Dev nD) (t : Fin cfg0.N) : (fdats m 0 c).after 2 t = (cfg0.win 2).fill (cfg0.grid.coords t) (fun _ => Classical.arbitrary _) (iblk m c 2 t) := by
  dsimp only [fdats]
theorem fbefore0 (c : Dev nD) (t : Fin cfg0.N) (d) : (fdats m 0 c).before 0 t d = iblk m c 0 t :=
  before0_0_of m (fdats m 0 c) (fA_eq m c 0) (fafter0 m c) t d
theorem fbefore1 (c : Dev nD) (t : Fin cfg0.N) (d) : (fdats m 0 c).before 1 t d = iblk m c 1 t :=
  before0_1_of m (fdats m 0 c) (fA_eq m c 1) (fafter1 m c) t d
theorem fbefore2 (c : Dev nD) (t : Fin cfg0.N) (d) : (fdats m 0 c).before 2 t d = (cfg0.win 2).fill (cfg0.grid.coords t) d (iblk m c 2 t) :=
  (Pipeline.Dat.before_fetched _ 2 t (fetch0_2 t) d).trans (by unfold Dat.fetched Dat.blockOf iblk; rw [fA_eq]; try rfl)

/-- The outputs, whose contents the frame does not follow. -/
def fgt (w : Fin cfg0.W) : Bool := decide (3 ≤ w.val)

theorem defs₀_row (t : Fin cfg0.N) :
    defs₀ (F := F) .tc cfg0.body (cfg0.bodyArgs t (cfg0.slots t)) = bodyAt0 t := by
  unfold defs₀; rw [Defs.onTc_tc]

/-- The body of the pipeline at point `t`, the outputs at any contents. -/
theorem sound_body (c : Dev nD) (t : Fin cfg0.N) :
    iprop((fdats m 0 c).Φ t.castSucc ∗ (fdats m 0 c).owesAt () t.castSucc
      ∗ (∃ d, owns (c : Thread nD τ) (st0_0 t) fullShare ((fdats m 0 c).before 0 t d))
      ∗ (∃ d, owns (c : Thread nD τ) (st0_1 t) fullShare ((fdats m 0 c).before 1 t d))
      ∗ (∃ d, owns (c : Thread nD τ) (st0_2 t) fullShare ((fdats m 0 c).before 2 t d))
      ∗ (∃ X, owns (c : Thread nD τ) (st0_3 t) fullShare X)
      ∗ (∃ X, owns (c : Thread nD τ) (st0_4 t) fullShare X)
      ∗ (∃ X, owns (c : Thread nD τ) (st0_5 t) fullShare X)
      ∗ (∃ X, owns (c : Thread nD τ) (st0_6 t) fullShare X)
      ∗ (∃ X, owns (c : Thread nD τ) (st0_7 t) fullShare X)
      ∗ (∃ X, owns (c : Thread nD τ) (st0_8 t) fullShare X)
      ∗ (∃ X, owns (c : Thread nD τ) (st0_9 t) fullShare X))
    ⊢ wp frame (wpE (defs₀ (F := F)) Variants.none c none) Set.univ (bodyAt0 t) (fun _ =>
    iprop((fdats m 0 c).Φ t.succ ∗ (fdats m 0 c).owesAt () t.succ
      ∗ owns (c : Thread nD τ) (st0_0 t) fullShare ((fdats m 0 c).after 0 t)
      ∗ owns (c : Thread nD τ) (st0_1 t) fullShare ((fdats m 0 c).after 1 t)
      ∗ (∃ d, owns (c : Thread nD τ) (st0_2 t) fullShare ((cfg0.win 2).fill (cfg0.grid.coords t) d ((cfg0.win 2).cut (cfg0.grid.coords t) ((fdats m 0 c).after 2 t))))
      ∗ (∃ X, owns (c : Thread nD τ) (st0_3 t) fullShare X)
      ∗ (∃ X, owns (c : Thread nD τ) (st0_4 t) fullShare X)
      ∗ (∃ X, owns (c : Thread nD τ) (st0_5 t) fullShare X)
      ∗ (∃ X, owns (c : Thread nD τ) (st0_6 t) fullShare X)
      ∗ (∃ X, owns (c : Thread nD τ) (st0_7 t) fullShare X)
      ∗ (∃ X, owns (c : Thread nD τ) (st0_8 t) fullShare X)
      ∗ (∃ X, owns (c : Thread nD τ) (st0_9 t) fullShare X))) := by
  simp only [fbefore0, fbefore1, fbefore2]
  rw [show (fdats m 0 c).Φ t.succ = Pipeline.ΦA spec0 c from rfl, show (fdats m 0 c).Φ t.castSucc = Pipeline.ΦA spec0 c from rfl,
    show (fdats m 0 c).owesAt () t.succ = (fdats m 0 c).owesAt () t.castSucc from rfl, fafter0, fafter1, fafter2]
  unfold Pipeline.ΦA bodyAt0
  rw [Gen.scopedRest0_eq, Pipeline.Window.cut_fill]
  unfold owns
  iintro ⟨⟨⟨⟨%f12, H12⟩, ⟨%f13, H13⟩⟩, Hr⟩, Ho, ⟨%d0, %f2, %e2, H2⟩, ⟨%d1, %f3, %e3, H3⟩, ⟨%d2, %f4, %e4, H4⟩, ⟨%d3, %f5, %e5, H5⟩, ⟨%d4, %f6, %e6, H6⟩, ⟨%d5, %f7, %e7, H7⟩, ⟨%d6, %f8, %e8, H8⟩, ⟨%d7, %f9, %e9, H9⟩, ⟨%d8, %f10, %e10, H10⟩, ⟨%d9, %f11, %e11, H11⟩⟩
  iapply (wp_wand_r frame (wpE (defs₀ (F := F)) Variants.none (c : Thread nD τ) none) Set.univ)
  isplitl [H2 H3 H4 H5 H6 H7 H8 H9 H10 H11 H12 H13]
  · iapply (body_any c (grid0.coords t) _ _ _ _ _ _ _ _ _ _ _ _ Set.univ f2 f3 f4 f5 f6 f7 f8 f9 f10 f11 f12 f13)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold pt; simp only [Memref.view_whole, View.set_whole]; iexact H12
    unfold pt; simp only [Memref.view_whole, View.set_whole]; iexact H13
  iintro %_ ⟨H2, H3, H4, ⟨%g5, H5⟩, ⟨%g6, H6⟩, ⟨%g7, H7⟩, ⟨%g8, H8⟩, ⟨%g9, H9⟩, ⟨%g10, H10⟩, ⟨%g11, H11⟩, ⟨%g12, H12⟩, ⟨%g13, H13⟩⟩
  unfold pt
  simp only [Memref.view_whole, View.set_whole]
  isplitl [H12 H13 Hr]
  · isplitl [H12 H13]
    · isplitl [H12]; · iexists _; iexact H12
      iexists _; iexact H13
    iexact Hr
  isplitl [Ho]; · iexact Ho
  isplitl [H2]
  · iexists f2; isplitr; · ipureintro; exact e2
    iexact H2
  isplitl [H3]
  · iexists f3; isplitr; · ipureintro; exact e3
    iexact H3
  isplitl [H4]
  · iexists d2; iexists f4; isplitr; · ipureintro; exact e4
    iexact H4
  isplitl [H5]
  · iexists _; iexists g5; isplitr; · ipureintro; rfl
    iexact H5
  isplitl [H6]
  · iexists _; iexists g6; isplitr; · ipureintro; rfl
    iexact H6
  isplitl [H7]
  · iexists _; iexists g7; isplitr; · ipureintro; rfl
    iexact H7
  isplitl [H8]
  · iexists _; iexists g8; isplitr; · ipureintro; rfl
    iexact H8
  isplitl [H9]
  · iexists _; iexists g9; isplitr; · ipureintro; rfl
    iexact H9
  isplitl [H10]
  · iexists _; iexists g10; isplitr; · ipureintro; rfl
    iexact H10
  iexists _; iexists g11; isplitr; · ipureintro; rfl
  iexact H11

/-- The library's body obligation, the outputs forgotten. -/
theorem body_obligation (c : Dev nD) : BodyObligationLoose (fdats (F := F) m 0 c) (defs₀ (F := F)) Variants.none () Set.univ fgt := fun t => by
  rw [bigSep_W0, bigSep_W0, defs₀_row]
  exact sound_body m c t

set_option backward.isDefEq.respectTransparency.types false in
/-- The run: every weakly fair execution ends, with the inputs' arrays as they were and every counter at zero. -/
theorem run_forget : θ_run defs (onTc (τ := τ) (main (F := F))) (s₀ m ρ)
    (fun r => Pipeline.RDat.FramePost cfg0 (fun c => (fdats m 0 c).toRForget fgt) (V m) r ∧ r.2.sem = fun _ => 0) :=
  Pipeline.θ_run_frame_forget (Q' := _) cfgs (fdats m) (0 : Fin 1) launch0 defs₀ Variants.none fgt m ρ main
    (hbody := fun c => body_obligation m c) (hshare := fun c => (fdats m 0 c).share_full fun _ => rfl)
    (howed := fun _ _ => rfl) (V := V m) (hmain := hmain m Variants.none) (hA := fA_eq m) (hΦ := fun _ _ => rfl)

/-- THE FRAME at any `F`: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨((h.1 c).2 main_arg0 (Pipeline.mem_restRefs_of main_arg0 (by decide) (by decide))).trans (V_main_arg0 m c),
      (Pipeline.RDat.FramePost.arr_in h.1 c 2 rfl).trans ((fA_eq m c 2).trans (V_main_arg1 m c)),
      (Pipeline.RDat.FramePost.arr_in h.1 c 0 rfl).trans ((fA_eq m c 0).trans (V_main_arg2 m c))⟩, h.2⟩) (run_forget m ρ)

end

end Cert.KernelIdeal.Hand

end
-- ==== Proof.Ideal.Pieces.lean ====
module

public import proofs.«01_k».proof.Proof.Ideal.Body

@[expose] public section

set_option maxRecDepth 16384
set_option maxHeartbeats 4000000

noncomputable section

namespace Cert.KernelIdeal.Hand

open Idealize.ShloMosaic Idealize.ShloMosaic.TcCoe Idealize.ShloMosaic.Tactic
open Cert.KernelIdeal.Gen

variable {F : FTy → Type} [FloatOps F]

/-- The values of `f`, the last index first. -/
def down {α : Type} : (n : ℕ) → (Fin n → α) → List α
  | 0, _ => []
  | n + 1, f => f (Fin.last n) :: down n (fun i => f i.castSucc)

theorem mem_down {α : Type} : ∀ {n : ℕ} {f : Fin n → α} {p : α}, p ∈ down n f ↔ ∃ i, p = f i
  | 0, f, p => ⟨fun h => absurd h List.not_mem_nil, fun ⟨i, _⟩ => i.elim0⟩
  | n + 1, f, p => by
    rw [down, List.mem_cons, mem_down]
    constructor
    · rintro (h | ⟨i, h⟩)
      exacts [⟨_, h⟩, ⟨_, h⟩]
    · rintro ⟨i, h⟩
      induction i using Fin.lastCases with
      | last => exact Or.inl h
      | cast i => exact Or.inr ⟨i, h⟩

/-! ### The weight tile -/

/-- Where the weights' scale of block row `rb` of the tile and column group `g` is read. -/
def wsOff (i : grid0.Coords) (rb : BitVec 32) (g : ℕ) : Fin 2 → ℕ :=
  ![(Scalar.indexCast (Scalar.minsi (Scalar.addi (Scalar.muli (BitVec.ofNat 32 (i 1).val) 4#32) rb) 50#32)).toNat, g]

theorem wsOff_inb (i : grid0.Coords) (rb : Fin 4) (g : Fin 62) (a : Fin 2) :
    wsOff i (BitVec.ofNat 32 rb.val) g.val a + S1x1.size a ≤ S51x62.size a := by
  fin_cases a
  · exact k0_off64_inb i rb 0
  · have := g.isLt
    show g.val + 1 ≤ 62
    omega

variable {arg2 : Memref sig .tc .smem S51x62 .f32} {arg3 : Memref sig .tc .vmem S512x7936 .bf16} {arg4 : Memref sig .tc .vmem S512x7936 .fp8e4m3}

/-- The weights' scale of block row `rb` of the tile and column group `g`. -/
def wsAt (i : grid0.Coords) (X2 : BufTy.Contents (Elt F) arg2.view.ty) (rb : Fin 4) (g : Fin 62) : Elt F .f32 :=
  View.readAt (Elt F) arg2.view (Rect.unit (s := S51x62) (wsOff i (BitVec.ofNat 32 rb.val) g.val) S1x1.size (wsOff_inb i rb g)).toLoadRect X2
    (Shape.Idx.first (s := S1x1) (by decide))

/-- A 128 by 128 block of the weight tile lies in it. -/
theorem wblk_inb (rb : Fin 4) (g : Fin 62) (a : Fin 2) : (![128 * rb.val, 128 * g.val] : Fin 2 → ℕ) a + S128x128.size a ≤ S512x7936.size a := by
  have := rb.isLt; have := g.isLt
  fin_cases a
  · show 128 * rb.val + 128 ≤ 512; omega
  · show 128 * g.val + 128 ≤ 7936; omega

/-- What a block of the weight tile is dequantised to. -/
def wdeqBlk (s : Elt F .f32) (v : Vec F S128x128 .fp8e4m3) : FVec F S128x128 .bf16 :=
  shapeCast S128x128 (mulf (extf .bf16 v bitsLt_fp8e4m3_bf16) (truncf .bf16 (broadcast S128x128 s : FVec F S128x128 .f32) bitsLt_bf16_f32)) shapeCasts_S128x128_S128x128

/-- The store of block `(rb, g)` of the weight tile. -/
def wPiece (i : grid0.Coords) (X2 : BufTy.Contents (Elt F) arg2.view.ty) (X4 : BufTy.Contents (Elt F) arg4.view.ty) (rb : Fin 4) (g : Fin 62) :
    View.Piece (Elt F) S512x7936 .bf16 :=
  ⟨Rect.unit (s := S512x7936) ![128 * rb.val, 128 * g.val] S128x128.size (wblk_inb rb g),
    wdeqBlk (wsAt i X2 rb g) (View.readAt (Elt F) arg4.view (Rect.unit (s := S512x7936) ![128 * rb.val, 128 * g.val] S128x128.size (wblk_inb rb g)).toLoadRect X4)⟩

/-- All the stores of the weight tile, the last first. -/
def wPieces (i : grid0.Coords) (X2 : BufTy.Contents (Elt F) arg2.view.ty) (X4 : BufTy.Contents (Elt F) arg4.view.ty) : List (View.Piece (Elt F) S512x7936 .bf16) :=
  down 62 (fun g => wPiece i X2 X4 3 g) ++ (down 62 (fun g => wPiece i X2 X4 2 g) ++ (down 62 (fun g => wPiece i X2 X4 1 g) ++ down 62 (fun g => wPiece i X2 X4 0 g)))

/-! ### The row block's quantiser -/

/-- Where the slab of trip `k` and column group `g` starts. -/
def slabOff (k : Fin k0_t1_loop.trips) (g : ℕ) : Fin 2 → ℕ :=
  ![(Scalar.indexCast (Scalar.muli (Scf.iv (0#32 : BitVec 32) 1#32 k) 32#32)).toNat, 128 * g]

theorem slabOff_zero (k : Fin k0_t1_loop.trips) (g : ℕ) : slabOff k g 0 = 32 * k.val := by
  revert k
  show ∀ k : Fin k0_t1_loop.trips, (Scalar.indexCast (Scalar.muli (Scf.iv (0#32 : BitVec 32) 1#32 k) 32#32)).toNat = 32 * k.val
  decide +kernel

theorem trips_eq : k0_t1_loop.trips = 16 := by decide +kernel

theorem slab_inb (k : Fin k0_t1_loop.trips) (g : Fin 62) (a : Fin 2) : slabOff k g.val a + S32x128.size a ≤ S512x7936.size a := by
  have := g.isLt
  have hk : k.val < 16 := trips_eq ▸ k.isLt
  fin_cases a
  · show slabOff k g.val 0 + 32 ≤ 512; rw [slabOff_zero]; omega
  · show 128 * g.val + 128 ≤ 7936; omega

theorem srow_inb (k : Fin k0_t1_loop.trips) (a : Fin 2) : slabOff k 0 a + S32x62.size a ≤ S512x62.size a := by
  have hk : k.val < 16 := trips_eq ▸ k.isLt
  fin_cases a
  · show slabOff k 0 0 + 32 ≤ 512; rw [slabOff_zero]; omega
  · show 128 * 0 + 62 ≤ 62; omega

/-- The slab of trip `k` and column group `g`, as loaded. -/
def slab (X3 : BufTy.Contents (Elt F) arg3.view.ty) (k : Fin k0_t1_loop.trips) (g : Fin 62) : Vec F S32x128 .bf16 :=
  View.readAt (Elt F) arg3.view (Rect.unit (s := S512x7936) (slabOff k g.val) S32x128.size (slab_inb k g)).toLoadRect X3

/-- The store of a slab's codes. -/
def cPiece (X3 : BufTy.Contents (Elt F) arg3.view.ty) (k : Fin k0_t1_loop.trips) (g : Fin 62) : View.Piece (Elt F) S512x7936 .fp8e4m3 :=
  ⟨Rect.unit (s := S512x7936) (slabOff k g.val) S32x128.size (slab_inb k g), k0_pay10 (k0_pay6 (slab X3 k g)) (k0_pay9 (slab X3 k g))⟩

/-- The store of a slab's dequantised copy. -/
def dPiece (X3 : BufTy.Contents (Elt F) arg3.view.ty) (k : Fin k0_t1_loop.trips) (g : Fin 62) : View.Piece (Elt F) S512x7936 .bf16 :=
  ⟨Rect.unit (s := S512x7936) (slabOff k g.val) S32x128.size (slab_inb k g),
    k0_pay11 (k0_pay6 (slab X3 k g)) (k0_pay8 (slab X3 k g)) (k0_pay9 (slab X3 k g))⟩

/-- A trip's scales gathered over its first column groups: column `g` takes the scale of group `g`. -/
def scaleRows (X3 : BufTy.Contents (Elt F) arg3.view.ty) (k : Fin k0_t1_loop.trips) : (n : ℕ) → (Fin n → Fin 62) → FVec F S32x62 .f32
  | 0, _ => k0_pay5
  | n + 1, e => select (cmpi .eq (iota .tc S32x62 32 [1] iota_S32x62_d1_w32) (broadcast S32x62 (BitVec.ofNat 32 (e (Fin.last n)).val)))
      (broadcastTo S32x62 (shapeCast S32x1 (k0_pay8 (slab X3 k (e (Fin.last n)))) shapeCasts_S32x1_S32x1) broadcasts_S32x1_S32x62)
      (scaleRows X3 k n (fun j => e j.castSucc))

/-- The store of a trip's scales. -/
def sPiece (X3 : BufTy.Contents (Elt F) arg3.view.ty) (k : Fin k0_t1_loop.trips) : View.Piece (Elt F) S512x62 .f32 :=
  ⟨Rect.unit (s := S512x62) (slabOff k 0) S32x62.size (srow_inb k), scaleRows X3 k 62 (fun g => g)⟩

section
variable (c : Dev nD) (i : grid0.Coords)
  (harg2 : arg2.IsWhole) (harg3 : arg3.IsWhole) (harg4 : arg4.IsWhole)
  {arg5 : Memref sig .tc .vmem S512x512 .bf16} (harg5 : arg5.IsWhole)
  {arg6 : Memref sig .tc .vmem S512x512 .bf16} (harg6 : arg6.IsWhole)
  {arg7 : Memref sig .tc .vmem S512x128 .bf16} (harg7 : arg7.IsWhole)
  {arg8 : Memref sig .tc .vmem S512x128 .bf16} (harg8 : arg8.IsWhole)
  {arg9 : Memref sig .tc .vmem S512x48 .bf16} (harg9 : arg9.IsWhole)
  {arg10 : Memref sig .tc .vmem S512x7936 .fp8e4m3} (harg10 : arg10.IsWhole)
  {arg11 : Memref sig .tc .vmem S512x62 .f32} (harg11 : arg11.IsWhole)
  {arg12 : Memref sig .tc .vmem S512x7936 .bf16} (harg12 : arg12.IsWhole)
  {arg13 : Memref sig .tc .vmem S512x7936 .bf16} (harg13 : arg13.IsWhole)

theorem tripL_codes (h1 : k0_cond1 i = 1#1) (X3 : BufTy.Contents (Elt F) arg3.view.ty) (k : Fin k0_t1_loop.trips) :
    (trip_k0_t1 (F := F) Variants.none c none i arg2 harg2 arg3 harg3 arg4 harg4 arg5 harg5 arg6 harg6 arg7 harg7 arg8 harg8 arg9 harg9 arg10 harg10 arg11 harg11 arg12 harg12 arg13 harg13 h1 X3 k).1
      = down 62 (fun g => cPiece X3 k g) := by
  sl_kernel_rfl

theorem tripL_scales (h1 : k0_cond1 i = 1#1) (X3 : BufTy.Contents (Elt F) arg3.view.ty) (k : Fin k0_t1_loop.trips) :
    (trip_k0_t1 (F := F) Variants.none c none i arg2 harg2 arg3 harg3 arg4 harg4 arg5 harg5 arg6 harg6 arg7 harg7 arg8 harg8 arg9 harg9 arg10 harg10 arg11 harg11 arg12 harg12 arg13 harg13 h1 X3 k).2.1
      = [sPiece X3 k] := by
  sl_kernel_rfl

theorem tripL_deq (h1 : k0_cond1 i = 1#1) (X3 : BufTy.Contents (Elt F) arg3.view.ty) (k : Fin k0_t1_loop.trips) :
    (trip_k0_t1 (F := F) Variants.none c none i arg2 harg2 arg3 harg3 arg4 harg4 arg5 harg5 arg6 harg6 arg7 harg7 arg8 harg8 arg9 harg9 arg10 harg10 arg11 harg11 arg12 harg12 arg13 harg13 h1 X3 k).2.2.1
      = down 62 (fun g => dPiece X3 k g) := by
  sl_kernel_rfl

theorem runB_w (h1 : ¬ k0_cond1 i = 1#1) (h2 : k0_cond2 i = 1#1) (h3 : ¬ k0_cond3 i = 1#1) (h4 : ¬ k0_cond4 i = 1#1)
    (X2 : BufTy.Contents (Elt F) arg2.view.ty) (X4 : BufTy.Contents (Elt F) arg4.view.ty) (X12 : BufTy.Contents (Elt F) arg12.view.ty) :
    (runB c i harg2 harg3 harg4 harg5 harg6 harg7 harg8 harg9 harg10 harg11 harg12 harg13 h1 h2 h3 h4 X2 X4 X12).1 = wPieces i X2 X4 := by
  sl_kernel_rfl

end

end Cert.KernelIdeal.Hand

end
-- ==== Proof.Ideal.Tiles.lean ====
module

public import proofs.«01_k».proof.Proof.Ideal.Pieces

@[expose] public section

set_option maxRecDepth 16384
set_option maxHeartbeats 4000000

noncomputable section

namespace Cert.KernelIdeal.Hand

open Idealize.ShloMosaic Idealize.ShloMosaic.TcCoe Idealize.ShloMosaic.Tactic
open Cert.KernelIdeal.Gen

variable {F : FTy → Type} [FloatOps F]

section
variable (c : Dev nD) (i : grid0.Coords)
  {arg2 : Memref sig .tc .smem S51x62 .f32} (harg2 : arg2.IsWhole)
  {arg3 : Memref sig .tc .vmem S512x7936 .bf16} (harg3 : arg3.IsWhole)
  {arg4 : Memref sig .tc .vmem S512x7936 .fp8e4m3} (harg4 : arg4.IsWhole)
  {arg5 : Memref sig .tc .vmem S512x512 .bf16} (harg5 : arg5.IsWhole)
  {arg6 : Memref sig .tc .vmem S512x512 .bf16} (harg6 : arg6.IsWhole)
  {arg7 : Memref sig .tc .vmem S512x128 .bf16} (harg7 : arg7.IsWhole)
  {arg8 : Memref sig .tc .vmem S512x128 .bf16} (harg8 : arg8.IsWhole)
  {arg9 : Memref sig .tc .vmem S512x48 .bf16} (harg9 : arg9.IsWhole)
  {arg10 : Memref sig .tc .vmem S512x7936 .fp8e4m3} (harg10 : arg10.IsWhole)
  {arg11 : Memref sig .tc .vmem S512x62 .f32} (harg11 : arg11.IsWhole)
  {arg12 : Memref sig .tc .vmem S512x7936 .bf16} (harg12 : arg12.IsWhole)
  {arg13 : Memref sig .tc .vmem S512x7936 .bf16} (harg13 : arg13.IsWhole)

/-- The row block's dequantised copy, whole, as a tile's product loads it. -/
abbrev ldU (X12 : BufTy.Contents (Elt F) arg12.view.ty) : Vec F S512x7936 .bf16 :=
  View.readAt (Elt F) arg12.view (Rect.unit (s := S512x7936) ![0, 0] S512x7936.size inb_S512x7936_S512x7936_0_0).toLoadRect X12

/-- The dequantised weight tile, whole, as a tile's product loads it. -/
abbrev ldW (arg13 : Memref sig .tc .vmem S512x7936 .bf16) (i : grid0.Coords) (X2 : BufTy.Contents (Elt F) arg2.view.ty) (X4 : BufTy.Contents (Elt F) arg4.view.ty) : Vec F S512x7936 .bf16 :=
  arg13.view.readCov (wPieces (arg2 := arg2) (arg4 := arg4) i X2 X4) (Rect.unit (s := S512x7936) ![0, 0] S512x7936.size inb_S512x7936_S512x7936_0_0).toLoadRect

theorem runA_w (h1 : k0_cond1 i = 1#1) (h2 : k0_cond2 i = 1#1) (h3 : ¬ k0_cond3 i = 1#1) (h4 : ¬ k0_cond4 i = 1#1)
    (X2 : BufTy.Contents (Elt F) arg2.view.ty) (X3 : BufTy.Contents (Elt F) arg3.view.ty) (X4 : BufTy.Contents (Elt F) arg4.view.ty) (X12 : BufTy.Contents (Elt F) arg12.view.ty) :
    (runA c i harg2 harg3 harg4 harg5 harg6 harg7 harg8 harg9 harg10 harg11 harg12 harg13 h1 h2 h3 h4 X2 X3 X4 X12).1 = wPieces i X2 X4 := by
  sl_kernel_rfl

theorem runC_w (h1 : ¬ k0_cond1 i = 1#1) (h2 : ¬ k0_cond2 i = 1#1) (h3 : k0_cond3 i = 1#1) (h4 : ¬ k0_cond4 i = 1#1)
    (X2 : BufTy.Contents (Elt F) arg2.view.ty) (X4 : BufTy.Contents (Elt F) arg4.view.ty) (X12 : BufTy.Contents (Elt F) arg12.view.ty) :
    (runC c i harg2 harg3 harg4 harg5 harg6 harg7 harg8 harg9 harg10 harg11 harg12 harg13 h1 h2 h3 h4 X2 X4 X12).1 = wPieces i X2 X4 := by
  sl_kernel_rfl

theorem runD_w (h1 : ¬ k0_cond1 i = 1#1) (h2 : ¬ k0_cond2 i = 1#1) (h3 : ¬ k0_cond3 i = 1#1) (h4 : k0_cond4 i = 1#1)
    (X2 : BufTy.Contents (Elt F) arg2.view.ty) (X4 : BufTy.Contents (Elt F) arg4.view.ty) (X12 : BufTy.Contents (Elt F) arg12.view.ty) :
    (runD c i harg2 harg3 harg4 harg5 harg6 harg7 harg8 harg9 harg10 harg11 harg12 harg13 h1 h2 h3 h4 X2 X4 X12).1 = wPieces i X2 X4 := by
  sl_kernel_rfl

theorem runA_z (h1 : k0_cond1 i = 1#1) (h2 : k0_cond2 i = 1#1) (h3 : ¬ k0_cond3 i = 1#1) (h4 : ¬ k0_cond4 i = 1#1)
    (X2 : BufTy.Contents (Elt F) arg2.view.ty) (X3 : BufTy.Contents (Elt F) arg3.view.ty) (X4 : BufTy.Contents (Elt F) arg4.view.ty) (X12 : BufTy.Contents (Elt F) arg12.view.ty) :
    (runA c i harg2 harg3 harg4 harg5 harg6 harg7 harg8 harg9 harg10 harg11 harg12 harg13 h1 h2 h3 h4 X2 X3 X4 X12).2.1 = [⟨Rect.unit (s := S512x512) ![0, 0] S512x512.size inb_S512x512_S512x512_0_0, k0_pay787 (ldU (arg12.view.writes (Elt F) X12 (pieces c i harg2 harg3 harg4 harg5 harg6 harg7 harg8 harg9 harg10 harg11 harg12 harg13 h1 X3).2.2)) (ldW arg13 i X2 X4)⟩] := by
  sl_kernel_rfl

theorem runB_z (h1 : ¬ k0_cond1 i = 1#1) (h2 : k0_cond2 i = 1#1) (h3 : ¬ k0_cond3 i = 1#1) (h4 : ¬ k0_cond4 i = 1#1)
    (X2 : BufTy.Contents (Elt F) arg2.view.ty) (X4 : BufTy.Contents (Elt F) arg4.view.ty) (X12 : BufTy.Contents (Elt F) arg12.view.ty) :
    (runB c i harg2 harg3 harg4 harg5 harg6 harg7 harg8 harg9 harg10 harg11 harg12 harg13 h1 h2 h3 h4 X2 X4 X12).2.1 = [⟨Rect.unit (s := S512x512) ![0, 0] S512x512.size inb_S512x512_S512x512_0_0, k0_pay787 (ldU X12) (ldW arg13 i X2 X4)⟩] := by
  sl_kernel_rfl

theorem runC_x (h1 : ¬ k0_cond1 i = 1#1) (h2 : ¬ k0_cond2 i = 1#1) (h3 : k0_cond3 i = 1#1) (h4 : ¬ k0_cond4 i = 1#1)
    (X2 : BufTy.Contents (Elt F) arg2.view.ty) (X4 : BufTy.Contents (Elt F) arg4.view.ty) (X12 : BufTy.Contents (Elt F) arg12.view.ty) :
    (runC c i harg2 harg3 harg4 harg5 harg6 harg7 harg8 harg9 harg10 harg11 harg12 harg13 h1 h2 h3 h4 X2 X4 X12).2.1 = [⟨Rect.unit (s := S512x512) ![0, 0] S512x512.size inb_S512x512_S512x512_0_0, k0_pay1 (k0_pay786 (ldU X12) (ldW arg13 i X2 X4))⟩] := by
  sl_kernel_rfl

theorem runD_b (h1 : ¬ k0_cond1 i = 1#1) (h2 : ¬ k0_cond2 i = 1#1) (h3 : ¬ k0_cond3 i = 1#1) (h4 : k0_cond4 i = 1#1)
    (X2 : BufTy.Contents (Elt F) arg2.view.ty) (X4 : BufTy.Contents (Elt F) arg4.view.ty) (X12 : BufTy.Contents (Elt F) arg12.view.ty) :
    (runD c i harg2 harg3 harg4 harg5 harg6 harg7 harg8 harg9 harg10 harg11 harg12 harg13 h1 h2 h3 h4 X2 X4 X12).2.1 = [⟨Rect.unit (s := S512x128) ![0, 0] S512x128.size inb_S512x128_S512x128_0_0, k0_pay2 (k0_pay786 (ldU X12) (ldW arg13 i X2 X4))⟩] := by
  sl_kernel_rfl

theorem runD_c (h1 : ¬ k0_cond1 i = 1#1) (h2 : ¬ k0_cond2 i = 1#1) (h3 : ¬ k0_cond3 i = 1#1) (h4 : k0_cond4 i = 1#1)
    (X2 : BufTy.Contents (Elt F) arg2.view.ty) (X4 : BufTy.Contents (Elt F) arg4.view.ty) (X12 : BufTy.Contents (Elt F) arg12.view.ty) :
    (runD c i harg2 harg3 harg4 harg5 harg6 harg7 harg8 harg9 harg10 harg11 harg12 harg13 h1 h2 h3 h4 X2 X4 X12).2.2.1 = [⟨Rect.unit (s := S512x128) ![0, 0] S512x128.size inb_S512x128_S512x128_0_0, k0_pay3 (k0_pay786 (ldU X12) (ldW arg13 i X2 X4))⟩] := by
  sl_kernel_rfl

theorem runD_dt (h1 : ¬ k0_cond1 i = 1#1) (h2 : ¬ k0_cond2 i = 1#1) (h3 : ¬ k0_cond3 i = 1#1) (h4 : k0_cond4 i = 1#1)
    (X2 : BufTy.Contents (Elt F) arg2.view.ty) (X4 : BufTy.Contents (Elt F) arg4.view.ty) (X12 : BufTy.Contents (Elt F) arg12.view.ty) :
    (runD c i harg2 harg3 harg4 harg5 harg6 harg7 harg8 harg9 harg10 harg11 harg12 harg13 h1 h2 h3 h4 X2 X4 X12).2.2.2.1 = [⟨Rect.unit (s := S512x48) ![0, 0] S512x48.size inb_S512x48_S512x48_0_0, k0_pay4 (k0_pay786 (ldU X12) (ldW arg13 i X2 X4))⟩] := by
  sl_kernel_rfl

end

end Cert.KernelIdeal.Hand

end
-- ==== Proof.Ideal.Quant.lean ====
module

public import Idealize.ShloMosaic.PureOps.Ideal.Laws

@[expose] public section

/-!
The block quantiser over the extended reals: a block of 128 numbers, the largest magnitude over 448,
the next power of two as the scale, and the block over that scale, clipped to ±448. The kernel finds
the power of two by counting the powers at or below a number, the reference by a logarithm: where the
block is below `2 ^ 128` the two agree.
-/

open Idealize Idealize.ShloMosaic

namespace Cert.Quant

/-- The largest magnitude of a block. -/
noncomputable def amax (v : Fin 128 → EReal) : EReal :=
  (Finset.univ : Finset (Fin 128)).fold max (Ideal.ofBits .f32 0xFF800000#32) (fun l => max (v l) (-(v l)))

/-- The largest magnitude over 448, as both programs compute it. -/
noncomputable def ratio (v : Fin 128 → EReal) : EReal := amax v * Ideal.ofBits .f32 0x3B124925#32

/-- The scale's exponent, by a logarithm. -/
noncomputable def expo (x : EReal) : EReal :=
  if x < Ideal.ofBits .f32 0x00800000#32 then Ideal.ofBits .f32 0x00000000#32
  else Ideal.liftRound Int.floor (Ideal.div (Ideal.log x) ((Real.log 2 : ℝ) : EReal)) + Ideal.ofBits .f32 0x3F800000#32

/-- The block's scale. -/
noncomputable def scl (v : Fin 128 → EReal) : EReal := Ideal.exp2 (expo (ratio v))

/-- The scale's reciprocal. -/
noncomputable def inv (v : Fin 128 → EReal) : EReal :=
  Ideal.exp2 (Ideal.ofBits .f32 0x00000000#32 - expo (ratio v))

/-- A quantised element. -/
noncomputable def code (v : Fin 128 → EReal) (l : Fin 128) : EReal :=
  min (Ideal.ofBits .f32 0x43E00000#32) (max (Ideal.ofBits .f32 0xC3E00000#32) (v l * inv v))

/-- A dequantised element. -/
noncomputable def deq (v : Fin 128 → EReal) (l : Fin 128) : EReal := code v l * scl v

/-- The number whose exponent field is `n` and whose fraction is zero. -/
noncomputable def pow (n : ℕ) : EReal := Ideal.ofBits .f32 (BitVec.ofNat 32 n <<< 23)

theorem pow_fields : ∀ n : Fin 256, ((BitVec.ofNat 32 n.1 <<< 23).extractLsb' 31 1 = 0#1
    ∧ ((BitVec.ofNat 32 n.1 <<< 23).extractLsb' 23 8).toNat = n.1)
    ∧ ((BitVec.ofNat 32 n.1 <<< 23).extractLsb' 0 23).toNat = 0 := by decide +kernel

theorem ofBits_f32 (b : BitVec 32) : Ideal.ofBits .f32 b = Ideal.ieee 8 23 b := by simp only [Ideal.ofBits]

theorem ofBits_bf16 (b : BitVec 16) : Ideal.ofBits .bf16 b = Ideal.ieee 8 7 b := by simp only [Ideal.ofBits]

theorem ieee_pos (e m : ℕ) {w : ℕ} (b : BitVec w) (ex fr : ℕ) (hn : b.extractLsb' (e + m) 1 = 0#1) (he : (b.extractLsb' m e).toNat = ex)
    (hf : (b.extractLsb' 0 m).toNat = fr) (h0 : ex ≠ 0) (h1 : ex ≠ 2 ^ e - 1) :
    Ideal.ieee e m b = (((2 ^ m + fr : ℕ) * (2 : ℝ) ^ ((ex : ℤ) - (2 ^ (e - 1) - 1) - m) : ℝ) : EReal) := by
  unfold Ideal.ieee
  simp only [hn, he, hf]
  rw [if_neg h1, if_neg h0, if_neg (by decide), one_mul]

theorem ofBits_power (b : BitVec 32) (n : ℕ) (hn : b.extractLsb' 31 1 = 0#1) (he : (b.extractLsb' 23 8).toNat = n)
    (hf : (b.extractLsb' 0 23).toNat = 0) (h0 : n ≠ 0) (h1 : n ≠ 255) :
    Ideal.ofBits .f32 b = (((2 : ℝ) ^ ((n : ℤ) - 127) : ℝ) : EReal) := by
  rw [ofBits_f32, ieee_pos 8 23 b n 0 hn he hf h0 h1]
  congr 1
  rw [show (((2 ^ 23 + 0 : ℕ) : ℕ) : ℝ) = (2 : ℝ) ^ (23 : ℤ) by norm_num, ← zpow_add₀ (by norm_num)]
  congr 1
  push_cast
  ring

theorem pow_eq (n : ℕ) (h1 : 1 ≤ n) (h2 : n < 255) : pow n = (((2 : ℝ) ^ ((n : ℤ) - 127) : ℝ) : EReal) :=
  have h := pow_fields ⟨n, by omega⟩
  ofBits_power _ n h.1.1 h.1.2 h.2 (by omega) (by omega)

theorem pow_top : pow 255 = ⊤ := by
  obtain ⟨⟨a, b⟩, c⟩ := pow_fields ⟨255, by omega⟩
  unfold pow
  rw [ofBits_f32]
  unfold Ideal.ieee
  simp only at a b c
  simp only [b, c, show 8 + 23 = 31 from rfl, a]
  rw [if_pos (by norm_num), if_pos trivial, if_neg (by decide)]

/-- The exponent field, as the number of powers at or below. -/
noncomputable def field (x : EReal) : ℕ := (Finset.univ.filter (fun k : Fin 255 => pow (k.1 + 1) ≤ x)).card

theorem field_of (x : ℝ) (K : ℕ) (hK : K ≤ 253) (h1 : 1 ≤ K → (2 : ℝ) ^ ((K : ℤ) - 127) ≤ x)
    (h2 : x < (2 : ℝ) ^ ((K : ℤ) - 126)) : field (x : EReal) = K := by
  have e : (Finset.univ.filter (fun k : Fin 255 => pow (k.1 + 1) ≤ (x : EReal)))
      = Finset.univ.filter (fun k : Fin 255 => k.1 < K) := by
    ext k
    simp only [Finset.mem_filter, Finset.mem_univ, true_and]
    rcases Nat.lt_or_ge k.1 254 with hk | hk
    · rw [pow_eq _ (by omega) (by omega), EReal.coe_le_coe_iff]
      constructor
      · intro h
        have := (zpow_lt_zpow_iff_right₀ (by norm_num : (1 : ℝ) < 2)).1 (lt_of_le_of_lt h h2)
        push_cast at this
        omega
      · intro h
        refine le_trans (zpow_le_zpow_right₀ (by norm_num) ?_) (h1 (by omega))
        push_cast
        omega
    · have : k.1 + 1 = 255 := by omega
      rw [this, pow_top]
      constructor
      · intro h
        exact absurd (top_le_iff.1 h) (EReal.coe_ne_top x)
      · intro h
        omega
  unfold field
  rw [e]
  have : (Finset.univ.filter (fun k : Fin 255 => k.1 < K)) = (Finset.univ : Finset (Fin K)).map (Fin.castLEEmb (by omega)) := by
    ext k
    simp only [Finset.mem_filter, Finset.mem_univ, true_and, Finset.mem_map]
    constructor
    · intro h
      exact ⟨⟨k.1, h⟩, rfl⟩
    · rintro ⟨a, rfl⟩
      exact a.2
  rw [this, Finset.card_map, Finset.card_univ, Fintype.card_fin]

/-- The scale's exponent field out of the number's. -/
def stepUp (f : ℕ) : ℕ := if f = 0 ∨ f = 255 then 127 else f + 1

theorem least_eq : Ideal.ofBits .f32 0x00800000#32 = (((2 : ℝ) ^ (-126 : ℤ) : ℝ) : EReal) := by
  have := pow_eq 1 (by norm_num) (by norm_num)
  norm_num [pow] at this ⊢
  exact this

theorem zero_eq : Ideal.ofBits .f32 0x00000000#32 = 0 := by
  exact Ideal.ofBits_zero_f32

theorem one_eq : Ideal.ofBits .f32 0x3F800000#32 = ((1 : ℝ) : EReal) := by
  have := pow_eq 127 (by norm_num) (by norm_num)
  norm_num [pow] at this ⊢
  exact this

theorem exp2_int (e : ℤ) : Ideal.exp2 ((e : ℝ) : EReal) = (((2 : ℝ) ^ e : ℝ) : EReal) := by
  show ((Real.rpow 2 (e : ℝ) : ℝ) : EReal) = _
  congr 1
  exact Real.rpow_intCast 2 e

/-- Below `2 ^ 120` the counted scale and its reciprocal are the reference's. -/
theorem agree (x : ℝ) (h0 : 0 ≤ x) (h : x < (2 : ℝ) ^ (120 : ℤ)) :
    field (x : EReal) < 255 ∧ 1 ≤ stepUp (field (x : EReal)) ∧ stepUp (field (x : EReal)) < 254
    ∧ pow (stepUp (field (x : EReal))) = Ideal.exp2 (expo (x : EReal))
    ∧ pow (254 - stepUp (field (x : EReal))) = Ideal.exp2 (Ideal.ofBits .f32 0x00000000#32 - expo (x : EReal)) := by
  rcases lt_or_ge x ((2 : ℝ) ^ (-126 : ℤ)) with hx | hx
  · have f0 : field (x : EReal) = 0 := field_of x 0 (by norm_num) (by norm_num) (by norm_num at hx ⊢; exact hx)
    have e0 : expo (x : EReal) = ((0 : ℤ) : ℝ) := by
      unfold expo
      rw [if_pos (by rw [least_eq]; exact EReal.coe_lt_coe_iff.2 hx), zero_eq]
      norm_num
    rw [f0, e0, zero_eq]
    have : (0 : EReal) - (((0 : ℤ) : ℝ) : EReal) = (((0 : ℤ) : ℝ) : EReal) := by norm_num
    rw [this, exp2_int]
    simp only [stepUp, true_or, if_true]
    refine ⟨by norm_num, by norm_num, by norm_num, ?_, ?_⟩ <;> rw [pow_eq _ (by norm_num) (by norm_num)] <;> norm_num
  · have hp : 0 < x := lt_of_lt_of_le (by positivity) hx
    have l2 : 0 < Real.log 2 := Real.log_pos (by norm_num)
    obtain ⟨e, he⟩ : ∃ e : ℤ, e = ⌊Real.log x / Real.log 2⌋ := ⟨_, rfl⟩
    have b1 : (2 : ℝ) ^ e ≤ x := by
      have := Int.floor_le (Real.log x / Real.log 2)
      rw [← he, le_div_iff₀ l2] at this
      rw [← Real.log_le_log_iff (by positivity) hp, Real.log_zpow]
      exact this
    have b2 : x < (2 : ℝ) ^ (e + 1) := by
      have := Int.lt_floor_add_one (Real.log x / Real.log 2)
      rw [← he, div_lt_iff₀ l2] at this
      rw [← Real.log_lt_log_iff hp (by positivity), Real.log_zpow]
      push_cast
      exact this
    have c1 : -126 < e + 1 := (zpow_lt_zpow_iff_right₀ (by norm_num : (1 : ℝ) < 2)).1 (lt_of_le_of_lt hx b2)
    have c2 : e < 120 := (zpow_lt_zpow_iff_right₀ (by norm_num : (1 : ℝ) < 2)).1 (lt_of_le_of_lt b1 h)
    obtain ⟨K, hK⟩ : ∃ K : ℕ, (K : ℤ) = e + 127 := ⟨(e + 127).toNat, by omega⟩
    have fK : field (x : EReal) = K := by
      refine field_of x K (by omega) (fun _ => ?_) ?_
      · rw [hK, show e + 127 - 127 = e by ring]; exact b1
      · rw [hK, show e + 127 - 126 = e + 1 by ring]; exact b2
    have eK : expo (x : EReal) = (((e + 1 : ℤ) : ℝ) : EReal) := by
      unfold expo
      rw [if_neg (by rw [least_eq, not_lt]; exact EReal.coe_le_coe_iff.2 hx), one_eq]
      have lg : Ideal.log (x : EReal) = ((Real.log x : ℝ) : EReal) := if_neg (not_le.2 hp)
      have dv : Ideal.div ((Real.log x : ℝ) : EReal) ((Real.log 2 : ℝ) : EReal) = ((Real.log x / Real.log 2 : ℝ) : EReal) := by
        unfold Ideal.div
        rw [if_neg (by rw [← EReal.coe_zero]; exact fun h => l2.ne' (EReal.coe_injective h)), ← EReal.coe_inv, ← EReal.coe_mul]
        rfl
      rw [lg, dv, Ideal.liftRound_coe, ← he, ← EReal.coe_add]
      push_cast
      rfl
    have sK : stepUp K = K + 1 := if_neg (by omega)
    rw [fK, sK, eK, zero_eq, exp2_int]
    refine ⟨by omega, by omega, by omega, ?_, ?_⟩
    · rw [pow_eq _ (by omega) (by omega)]
      congr 2
      push_cast
      omega
    · have : (0 : EReal) - (((e + 1 : ℤ) : ℝ) : EReal) = (((-(e + 1) : ℤ) : ℝ) : EReal) := by
        rw [zero_sub, ← EReal.coe_neg]
        push_cast
        rfl
      rw [this, exp2_int, pow_eq _ (by omega) (by omega)]
      congr 2
      omega

theorem negInf_eq : Ideal.ofBits .f32 0xFF800000#32 = ⊥ := by
  rw [ofBits_f32]
  unfold Ideal.ieee
  have e1 : (0xFF800000#32).extractLsb' (8 + 23) 1 = 1#1 := by decide
  have e2 : ((0xFF800000#32).extractLsb' 23 8).toNat = 255 := by decide
  have e3 : ((0xFF800000#32).extractLsb' 0 23).toNat = 0 := by decide
  simp only [e1, e2, e3]
  rw [if_pos (by norm_num), if_pos trivial, if_pos (by decide)]

theorem big_eq : Ideal.ofBits .bf16 0x7F7F#16 = ((255 * (2 : ℝ) ^ (120 : ℤ) : ℝ) : EReal) := by
  rw [ofBits_bf16, ieee_pos 8 7 (0x7F7F#16) 254 127 (by decide) (by decide) (by decide) (by decide) (by decide)]
  norm_num

theorem recip_eq : ∃ c : ℝ, Ideal.ofBits .f32 0x3B124925#32 = (c : EReal) ∧ 0 ≤ c ∧ c < (2 : ℝ) ^ (-8 : ℤ) := by
  refine ⟨9586981 * (2 : ℝ) ^ (-32 : ℤ), ?_, by positivity, by norm_num⟩
  rw [ofBits_f32, ieee_pos 8 23 (0x3B124925#32) 118 1198373 (by decide) (by decide) (by decide) (by decide) (by decide)]
  norm_num

/-- A block of finite numbers has a ratio below `2 ^ 120`. -/
theorem ratio_bound (v : Fin 128 → EReal) (h : ∀ l, max (v l) (-(v l)) ≤ Ideal.ofBits .bf16 0x7F7F#16) :
    ∃ r : ℝ, ratio v = (r : EReal) ∧ 0 ≤ r ∧ r < (2 : ℝ) ^ (120 : ℤ) := by
  have lo : (0 : EReal) ≤ amax v := by
    unfold amax
    rw [Finset.le_fold_max]
    refine .inr ⟨0, Finset.mem_univ _, ?_⟩
    rcases le_total 0 (v 0) with h | h
    · exact le_trans h (le_max_left _ _)
    · exact le_trans (EReal.neg_nonneg.2 h) (le_max_right _ _)
  have hi : amax v ≤ ((255 * (2 : ℝ) ^ (120 : ℤ) : ℝ) : EReal) := by
    unfold amax
    rw [Finset.fold_max_le]
    refine ⟨by rw [negInf_eq]; exact bot_le, fun l _ => by rw [← big_eq]; exact h l⟩
  obtain ⟨c, hc, c0, c1⟩ := recip_eq
  have nt : amax v ≠ ⊤ := fun e => by rw [e] at hi; exact absurd (top_le_iff.1 hi) (EReal.coe_ne_top _)
  have nb : amax v ≠ ⊥ := fun e => by rw [e] at lo; exact absurd (le_bot_iff.1 lo) (by simp)
  obtain ⟨a, ha⟩ : ∃ a : ℝ, amax v = (a : EReal) := ⟨(amax v).toReal, (EReal.coe_toReal nt nb).symm⟩
  rw [ha] at lo hi
  have lo' : 0 ≤ a := by exact_mod_cast lo
  have hi' := EReal.coe_le_coe_iff.1 hi
  refine ⟨a * c, by unfold ratio; rw [ha, hc, EReal.coe_mul], by positivity, ?_⟩
  calc a * c ≤ (255 * (2 : ℝ) ^ (120 : ℤ)) * c := mul_le_mul_of_nonneg_right hi' c0
    _ ≤ (255 * (2 : ℝ) ^ (120 : ℤ)) * (2 : ℝ) ^ (-8 : ℤ) := mul_le_mul_of_nonneg_left c1.le (by positivity)
    _ < (2 : ℝ) ^ (120 : ℤ) := by norm_num

/-- A block of finite numbers: the counted scale and reciprocal are the block's. -/
theorem counted (v : Fin 128 → EReal) (h : ∀ l, max (v l) (-(v l)) ≤ Ideal.ofBits .bf16 0x7F7F#16) :
    field (ratio v) < 255 ∧ 1 ≤ stepUp (field (ratio v)) ∧ stepUp (field (ratio v)) < 254
    ∧ pow (stepUp (field (ratio v))) = scl v ∧ pow (254 - stepUp (field (ratio v))) = inv v := by
  obtain ⟨r, hr, r0, r1⟩ := ratio_bound v h
  unfold scl inv
  rw [hr]
  exact agree r r0 r1

end Cert.Quant

end
-- ==== Proof.Ideal.KQuant.lean ====
module

public import proofs.«01_k».proof.Proof.Gen.KernelIdeal.Skeleton
public import proofs.«01_k».proof.Proof.Ideal.Quant
public import Idealize.ShloMosaic.Lib.Pointwise
public import Idealize.ShloMosaic.Lib.ValueLayout
public import Idealize.ShloMosaic.Lib.ValueLayoutCasts
public import Idealize.ShloMosaic.Lib.IndicatorCount

@[expose] public section

set_option maxRecDepth 16384

/-!
A slab of 32 rows by 128 columns as the kernel quantises it, row by row.
-/

noncomputable section

namespace Cert.KernelIdeal.Hand

open Idealize.ShloMosaic
open Cert.KernelIdeal.Gen

/-- A row of a slab. -/
def row (s : Vec Ideal S32x128 .bf16) (r : Fin 32) : Fin 128 → EReal := fun l => s (ix2 r l)

theorem col_apply {α : Type} (V : S32.Idx → α) (r : Fin 32) : shapeCast S32x1 V shapeCasts_S32_S32x1 (ix2 r 0) = V (ix1 r) := by
  simp only [pointwise]

theorem spread_apply {α : Type} (x : S32x1.Idx → α) (r : Fin 32) (l : Fin 128) : broadcastTo S32x128 x broadcasts_S32x1_S32x128 (ix2 r l) = x (ix2 r 0) := by
  simp only [pointwise]
  rfl

theorem pay6_apply (s : Vec Ideal S32x128 .bf16) (j : S32x128.Idx) : k0_pay6 s j = s j := by
  unfold k0_pay6
  rw [shapeCast_id]
  rfl

theorem amax_apply (s : Vec Ideal S32x128 .bf16) (r : Fin 32) :
    multiReduction .maximumf [1] S32 (absf (k0_pay6 s)) 0xFF800000#32 reduces_S32x128_S32 (.inl rfl) rfl (ix1 r) = Quant.amax (row s r) := by
  refine (Ideal.multiReduction_maximumf_single _ _ _ _ _ _).trans ?_
  unfold Quant.amax
  congr 1
  funext l
  have e : reduces_S32x128_S32.lift (ix1 r) l = ix2 r l := by
    funext a
    match a with
    | ⟨0, _⟩ => rfl
    | ⟨1, _⟩ => rfl
  show (absf (k0_pay6 s)) (reduces_S32x128_S32.lift (ix1 r) l) = _
  rw [e]
  show max (k0_pay6 s (ix2 r l)) (-(k0_pay6 s (ix2 r l))) = _
  rw [pay6_apply]
  rfl

theorem shl_ofNat (n : ℕ) : IntOp.shli .vector (BitVec.ofNat 32 n) 23#32 = BitVec.ofNat 32 n <<< 23 := by
  unfold IntOp.shli
  rw [if_pos (by decide)]
  rfl

/-- The word that counts the powers at or below `x r`. -/
theorem count_apply (x : FVec Ideal S32x1 .f32) (r : Fin 32) :
    multiReductionI .add [1] S32
      (select (cmpf .oge (broadcastTo S32x255 x broadcasts_S32x1_S32x255)
          (bitcastToFloat .f32 (shli (addi (iota .tc S32x255 32 [1] iota_S32x255_d1_w32) (broadcast S32x255 1#32)) (broadcast S32x255 23#32))))
        (broadcast S32x255 1#32) (broadcast S32x255 0#32)) 0#32 reduces_S32x255_S32 rfl (ix1 r)
      = BitVec.ofNat 32 (Quant.field (x (ix2 r 0))) := by
  refine (multiReductionI_eq_fold _ _ _ _ _ _).trans ?_
  refine (Shape.Reduces.fold_filter_drop_single _ _ _ _ _).trans ?_
  unfold Quant.field
  have key := IndicatorCount.fold_addi_setWidth_eq_card (w := 32)
    (fun k : Fin 255 => BitVec.ofBool (decide (Quant.pow (k.val + 1) ≤ x (ix2 r 0)))) Finset.univ
  have e : ∀ k : Fin 255, (BitVec.ofBool (decide (Quant.pow (k.val + 1) ≤ x (ix2 r 0))) = 1#1) ↔ Quant.pow (k.val + 1) ≤ x (ix2 r 0) := by
    intro k
    by_cases h : Quant.pow (k.val + 1) ≤ x (ix2 r 0) <;> simp [h]
  simp only [e] at key
  refine Eq.trans ?_ key
  show Finset.fold IntOp.addi 0#32 _ _ = _
  congr 1
  funext k
  have l : reduces_S32x255_S32.lift (ix1 r) k = ix2 r k := by
    funext a
    match a with
    | ⟨0, _⟩ => rfl
    | ⟨1, _⟩ => rfl
  show (select _ _ _ : IVec S32x255 32) (reduces_S32x255_S32.lift (ix1 r) k) = _
  rw [l]
  have i : (iota .tc S32x255 32 [1] iota_S32x255_d1_w32 : IVec S32x255 32) (ix2 r k) = BitVec.ofNat 32 k.val := by
    simp [iota]
  have b : broadcastTo S32x255 x broadcasts_S32x1_S32x255 (ix2 r k) = x (ix2 r 0) := by
    simp only [pointwise]
    rfl
  show Scalar.select (Ideal.cmp .oge (broadcastTo S32x255 x broadcasts_S32x1_S32x255 (ix2 r k))
    (Ideal.ofBits .f32 (IntOp.shli .vector (IntOp.addi ((iota .tc S32x255 32 [1] iota_S32x255_d1_w32 : IVec S32x255 32) (ix2 r k)) 1#32) 23#32))) 1#32 0#32 = _
  rw [i, b, show IntOp.addi (BitVec.ofNat 32 k.val) 1#32 = BitVec.ofNat 32 (k.val + 1) by simp [IntOp.addi, BitVec.ofNat_add], shl_ofNat]
  show Scalar.select (BitVec.ofBool (decide (Quant.pow (k.val + 1) ≤ x (ix2 r 0)))) 1#32 0#32 = _
  by_cases h : Quant.pow (k.val + 1) ≤ x (ix2 r 0) <;> simp [h, Scalar.select]

theorem step_apply (V : IVec S32 32) (r : Fin 32) (n : ℕ) (hV : V (ix1 r) = BitVec.ofNat 32 n) (hn : n ≤ 255) :
    (select (ori (cmpi .eq (shapeCast S32x1 V shapeCasts_S32_S32x1) (broadcast S32x1 0#32)) (cmpi .eq (shapeCast S32x1 V shapeCasts_S32_S32x1) (broadcast S32x1 255#32)))
      (broadcast S32x1 127#32) (addi (shapeCast S32x1 V shapeCasts_S32_S32x1) (broadcast S32x1 1#32)) : IVec S32x1 32) (ix2 r 0)
      = BitVec.ofNat 32 (Quant.stepUp n) := by
  show Scalar.select (IntOp.ori (IntOp.cmpi .eq (shapeCast S32x1 V shapeCasts_S32_S32x1 (ix2 r 0)) 0#32) (IntOp.cmpi .eq (shapeCast S32x1 V shapeCasts_S32_S32x1 (ix2 r 0)) 255#32))
    127#32 (IntOp.addi (shapeCast S32x1 V shapeCasts_S32_S32x1 (ix2 r 0)) 1#32) = _
  rw [col_apply, hV]
  have key : ∀ k : Fin 256, Scalar.select (IntOp.ori (IntOp.cmpi .eq (BitVec.ofNat 32 k.val) 0#32) (IntOp.cmpi .eq (BitVec.ofNat 32 k.val) 255#32))
    127#32 (IntOp.addi (BitVec.ofNat 32 k.val) 1#32) = BitVec.ofNat 32 (Quant.stepUp k.val) := by decide +kernel
  exact key ⟨n, by omega⟩

/-- The kernel's exponent field of a row. -/
theorem pay7_apply (s : Vec Ideal S32x128 .bf16) (r : Fin 32) :
    k0_pay7 s (ix2 r 0) = BitVec.ofNat 32 (Quant.stepUp (Quant.field (Quant.ratio (row s r)))) := by
  have hx : (mulf (shapeCast S32x1 (multiReduction .maximumf [1] S32 (absf (k0_pay6 s)) 0xFF800000#32 reduces_S32x128_S32 (.inl rfl) rfl) shapeCasts_S32_S32x1)
      (broadcast S32x1 (Scalar.ofBits .f32 0x3B124925#32)) : FVec Ideal S32x1 .f32) (ix2 r 0) = Quant.ratio (row s r) := by
    show shapeCast S32x1 _ shapeCasts_S32_S32x1 (ix2 r 0) * _ = _
    rw [col_apply, amax_apply]
    rfl
  have hc := count_apply (mulf (shapeCast S32x1 (multiReduction .maximumf [1] S32 (absf (k0_pay6 s)) 0xFF800000#32 reduces_S32x128_S32 (.inl rfl) rfl) shapeCasts_S32_S32x1)
      (broadcast S32x1 (Scalar.ofBits .f32 0x3B124925#32))) r
  rw [hx] at hc
  have hf : Quant.field (Quant.ratio (row s r)) ≤ 255 := by
    unfold Quant.field
    exact le_trans (Finset.card_le_univ _) (by simp)
  exact step_apply _ r _ hc hf

/-- A slab of finite numbers. -/
def Small (s : Vec Ideal S32x128 .bf16) : Prop := ∀ r l, max (row s r l) (-(row s r l)) ≤ Ideal.ofBits .bf16 0x7F7F#16

theorem pay8_apply (s : Vec Ideal S32x128 .bf16) (hs : Small s) (r : Fin 32) : k0_pay8 s (ix2 r 0) = Quant.scl (row s r) := by
  rw [← (Quant.counted (row s r) (hs r)).2.2.2.1]
  unfold k0_pay8
  show Ideal.ofBits .f32 (IntOp.shli .vector (k0_pay7 s (ix2 r 0)) 23#32) = _
  rw [pay7_apply, shl_ofNat]
  rfl

theorem pay9_apply (s : Vec Ideal S32x128 .bf16) (hs : Small s) (r : Fin 32) : Ideal.ofBits .f32 (k0_pay9 s (ix2 r 0)) = Quant.inv (row s r) := by
  obtain ⟨h0, h1, h2, h3, h4⟩ := Quant.counted (row s r) (hs r)
  rw [← h4]
  unfold k0_pay9
  show Ideal.ofBits .f32 (IntOp.shli .vector (IntOp.subi 254#32 (k0_pay7 s (ix2 r 0))) 23#32) = _
  rw [pay7_apply]
  generalize Quant.stepUp (Quant.field (Quant.ratio (row s r))) = n at h2
  have e : IntOp.subi 254#32 (BitVec.ofNat 32 n) = BitVec.ofNat 32 (254 - n) := by
    have key : ∀ k : Fin 254, IntOp.subi 254#32 (BitVec.ofNat 32 k.val) = BitVec.ofNat 32 (254 - k.val) := by decide +kernel
    exact key ⟨n, h2⟩
  rw [e, shl_ofNat]
  rfl

/-- A slab's codes. -/
theorem pay10_apply (s : Vec Ideal S32x128 .bf16) (hs : Small s) (r : Fin 32) (l : Fin 128) :
    k0_pay10 (k0_pay6 s) (k0_pay9 s) (ix2 r l) = Quant.code (row s r) l := by
  unfold k0_pay10 Quant.code
  show min _ (max _ (k0_pay6 s (ix2 r l) * broadcastTo S32x128 (bitcastToFloat .f32 (k0_pay9 s)) broadcasts_S32x1_S32x128 (ix2 r l))) = _
  have b : broadcastTo S32x128 (bitcastToFloat .f32 (k0_pay9 s) : FVec Ideal S32x1 .f32) broadcasts_S32x1_S32x128 (ix2 r l)
      = (bitcastToFloat .f32 (k0_pay9 s) : FVec Ideal S32x1 .f32) (ix2 r 0) := spread_apply _ r l
  rw [b, pay6_apply]
  show min _ (max _ (_ * Ideal.ofBits .f32 (k0_pay9 s (ix2 r 0)))) = _
  rw [pay9_apply s hs]
  rfl

/-- A slab's dequantised copy. -/
theorem pay11_apply (s : Vec Ideal S32x128 .bf16) (hs : Small s) (r : Fin 32) (l : Fin 128) :
    k0_pay11 (k0_pay6 s) (k0_pay8 s) (k0_pay9 s) (ix2 r l) = Quant.deq (row s r) l := by
  unfold k0_pay11 Quant.deq
  rw [← pay10_apply s hs, ← pay8_apply s hs]
  rw [shapeCast_id, shapeCast_id]
  show k0_pay10 (k0_pay6 s) (k0_pay9 s) (ix2 r l) * broadcastTo S32x128 (k0_pay8 s) broadcasts_S32x1_S32x128 (ix2 r l) = _
  have b : broadcastTo S32x128 (k0_pay8 s) broadcasts_S32x1_S32x128 (ix2 r l) = k0_pay8 s (ix2 r 0) := spread_apply _ r l
  rw [b]

end Cert.KernelIdeal.Hand

end

end
-- ==== Proof.Ideal.Spec.lean ====
module

public import proofs.«01_k».proof.Proof.Ideal.Quant
public import Idealize.ShloMosaic.Lib.Pointwise

@[expose] public section

/-!
What both programs compute, over the extended reals: every row of the activations is quantised in groups of
128 columns and dequantised again, the weights are scaled by the scale of their 128 by 128 block, and a
projected element is the sum of the products along the row.
-/

noncomputable section

namespace Cert.Spec

open Idealize.ShloMosaic

/-- The group of 128 columns a column lies in. -/
def grp (k : Fin 7936) : Fin 62 := ⟨k.val / 128, by omega⟩

/-- A column's place in its group. -/
def lane (k : Fin 7936) : Fin 128 := ⟨k.val % 128, by omega⟩

/-- Column `l` of group `g`. -/
def col (g : Fin 62) (l : Fin 128) : Fin 7936 := ⟨128 * g.val + l.val, by omega⟩

theorem grp_col (g : Fin 62) (l : Fin 128) : grp (col g l) = g := Fin.ext (by simp only [grp, col]; omega)
theorem lane_col (g : Fin 62) (l : Fin 128) : lane (col g l) = l := Fin.ext (by simp only [lane, col]; omega)
theorem col_grp (k : Fin 7936) : col (grp k) (lane k) = k := Fin.ext (by simp only [grp, lane, col]; omega)

/-- Group `g` of a row. -/
def part (w : Fin 7936 → EReal) (g : Fin 62) : Fin 128 → EReal := fun l => w (col g l)

/-- The codes of a row. -/
def rcode (w : Fin 7936 → EReal) (k : Fin 7936) : EReal := Quant.code (part w (grp k)) (lane k)

/-- The scales of a row. -/
def rscl (w : Fin 7936 → EReal) (g : Fin 62) : EReal := Quant.scl (part w g)

/-- A row quantised and dequantised. -/
def rdeq (w : Fin 7936 → EReal) (k : Fin 7936) : EReal := Quant.deq (part w (grp k)) (lane k)

theorem rcode_col (w : Fin 7936 → EReal) (g : Fin 62) (l : Fin 128) : rcode w (col g l) = Quant.code (part w g) l := by
  unfold rcode; rw [grp_col, lane_col]

theorem rdeq_col (w : Fin 7936 → EReal) (g : Fin 62) (l : Fin 128) : rdeq w (col g l) = Quant.deq (part w g) l := by
  unfold rdeq; rw [grp_col, lane_col]

/-- The block of 128 weight rows a weight row lies in. -/
def wgrp (n : Fin 6448) : Fin 51 := ⟨n.val / 128, by omega⟩

section
variable (U : (⟨2, ![4096, 7936]⟩ : Shape).Idx → EReal) (Wt : (⟨2, ![6448, 7936]⟩ : Shape).Idx → EReal) (Ws : (⟨2, ![51, 62]⟩ : Shape).Idx → EReal)

/-- Row `r` of the activations. -/
def urow (r : Fin 4096) : Fin 7936 → EReal := fun k => U (ix2 r k)

/-- A weight scaled by its block's scale. -/
def wdeq (n : Fin 6448) (k : Fin 7936) : EReal := Wt (ix2 n k) * Ws (ix2 (wgrp n) (grp k))

/-- The projection's element at row `r`, feature `n`. -/
def proj (r : Fin 4096) (n : Fin 6448) : EReal := ∑ k : Fin 7936, rdeq (urow U r) k * wdeq Wt Ws n k

/-- The gate. -/
def z : (⟨2, ![4096, 3072]⟩ : Shape).Idx → EReal := fun y => proj U Wt Ws (y 0) ⟨(y 1).val, lt_of_lt_of_le (y 1).isLt (by decide)⟩
/-- The input. -/
def x : (⟨2, ![4096, 3072]⟩ : Shape).Idx → EReal := fun y => proj U Wt Ws (y 0) ⟨3072 + (y 1).val, by have : (y 1).val < 3072 := (y 1).isLt; omega⟩
/-- The state's input matrix. -/
def b : (⟨2, ![4096, 128]⟩ : Shape).Idx → EReal := fun y => proj U Wt Ws (y 0) ⟨6144 + (y 1).val, by have : (y 1).val < 128 := (y 1).isLt; omega⟩
/-- The state's output matrix. -/
def c : (⟨2, ![4096, 128]⟩ : Shape).Idx → EReal := fun y => proj U Wt Ws (y 0) ⟨6272 + (y 1).val, by have : (y 1).val < 128 := (y 1).isLt; omega⟩
/-- The step sizes. -/
def dt : (⟨2, ![4096, 48]⟩ : Shape).Idx → EReal := fun y => proj U Wt Ws (y 0) ⟨6400 + (y 1).val, by have : (y 1).val < 48 := (y 1).isLt; omega⟩
/-- The activations' codes. -/
def codes : (⟨2, ![4096, 7936]⟩ : Shape).Idx → EReal := fun y => rcode (urow U (y 0)) (y 1)
/-- The activations' scales. -/
def scales : (⟨2, ![4096, 62]⟩ : Shape).Idx → EReal := fun y => rscl (urow U (y 0)) (y 1)

end

end Cert.Spec

end
-- ==== Proof.Ideal.KBlock.lean ====
module

public import proofs.«01_k».proof.Proof.Ideal.Tiles
public import proofs.«01_k».proof.Proof.Ideal.KQuant
public import proofs.«01_k».proof.Proof.Ideal.Spec
public import Idealize.ShloMosaic.Lib.MatmulPlain

@[expose] public section

set_option maxRecDepth 16384

/-!
What the kernel's stores leave, element by element, over the extended reals.
-/

noncomputable section

namespace Cert.KernelIdeal.Hand

open Idealize.ShloMosaic Idealize.ShloMosaic.TcCoe Idealize.ShloMosaic.Tactic
open Cert.KernelIdeal.Gen Cert.Spec

/-! ### A row block -/

/-- Row `r` of a row block. -/
def brow (X : S512x7936.Idx → EReal) (r : Fin 512) : Fin 7936 → EReal := fun k => X (ix2 r k)

/-- A row block's codes. -/
def bcode (X : S512x7936.Idx → EReal) : S512x7936.Idx → EReal := fun y => rcode (brow X (y 0)) (y 1)

/-- A row block's scales. -/
def bscl (X : S512x7936.Idx → EReal) : S512x62.Idx → EReal := fun y => rscl (brow X (y 0)) (y 1)

/-- A row block quantised and dequantised. -/
def bdeq (X : S512x7936.Idx → EReal) : S512x7936.Idx → EReal := fun y => rdeq (brow X (y 0)) (y 1)

/-- Every element is below the largest finite one in absolute value. -/
def BSmall (X : S512x7936.Idx → EReal) : Prop := ∀ y, max (X y) (-(X y)) ≤ Ideal.ofBits .bf16 0x7F7F#16

section
variable {arg3 : Memref sig .tc .vmem S512x7936 .bf16} (X3 : BufTy.Contents (Elt Ideal) arg3.view.ty)

/-- Row `r` of the slab of trip `k`, in the row block. -/
def srow (k : Fin k0_t1_loop.trips) (r : Fin 32) : Fin 512 := ⟨32 * k.val + r.val, by have : k.val < 16 := trips_eq ▸ k.isLt; omega⟩

theorem slab_emb (k : Fin k0_t1_loop.trips) (g : Fin 62) (x : S32x128.Idx) :
    (Rect.unit (s := S512x7936) (slabOff k g.val) S32x128.size (slab_inb k g)).emb x = ix2 (srow k (x 0)) (col g (x 1)) := by
  funext a
  apply Fin.ext
  match a with
  | ⟨0, _⟩ => show slabOff k g.val 0 + 1 * (x 0).val = 32 * k.val + (x 0).val; rw [slabOff_zero, Nat.one_mul]
  | ⟨1, _⟩ => show 128 * g.val + 1 * (x 1).val = 128 * g.val + (x 1).val; rw [Nat.one_mul]

theorem row_slab (k : Fin k0_t1_loop.trips) (g : Fin 62) (r : Fin 32) :
    row (slab X3 k g) r = part (brow (arg3.view.read (Elt Ideal) X3) (srow k r)) g := by
  funext l
  exact congrArg (arg3.view.read (Elt Ideal) X3) (slab_emb k g (ix2 r l))

theorem small_slab (hs : BSmall (arg3.view.read (Elt Ideal) X3)) (k : Fin k0_t1_loop.trips) (g : Fin 62) : Small (slab X3 k g) :=
  fun r l => hs _

theorem cPiece_apply (hs : BSmall (arg3.view.read (Elt Ideal) X3)) (k : Fin k0_t1_loop.trips) (g : Fin 62) (x : S32x128.Idx) :
    (cPiece X3 k g).2 x = bcode (arg3.view.read (Elt Ideal) X3) ((cPiece X3 k g).1.emb x) := by
  obtain ⟨r, l, rfl⟩ : ∃ (r : Fin 32) (l : Fin 128), x = ix2 r l := ⟨x 0, x 1, eq_ix2 x⟩
  refine Eq.trans ?_ (congrArg (bcode (arg3.view.read (Elt Ideal) X3)) (slab_emb k g (ix2 r l))).symm
  refine (pay10_apply _ (small_slab X3 hs k g) r l).trans ?_
  rw [row_slab]
  exact (rcode_col (brow (arg3.view.read (Elt Ideal) X3) (srow k r)) g l).symm

theorem dPiece_apply (hs : BSmall (arg3.view.read (Elt Ideal) X3)) (k : Fin k0_t1_loop.trips) (g : Fin 62) (x : S32x128.Idx) :
    (dPiece X3 k g).2 x = bdeq (arg3.view.read (Elt Ideal) X3) ((dPiece X3 k g).1.emb x) := by
  obtain ⟨r, l, rfl⟩ : ∃ (r : Fin 32) (l : Fin 128), x = ix2 r l := ⟨x 0, x 1, eq_ix2 x⟩
  refine Eq.trans ?_ (congrArg (bdeq (arg3.view.read (Elt Ideal) X3)) (slab_emb k g (ix2 r l))).symm
  refine (pay11_apply _ (small_slab X3 hs k g) r l).trans ?_
  rw [row_slab]
  exact (rdeq_col (brow (arg3.view.read (Elt Ideal) X3) (srow k r)) g l).symm

theorem wide_apply {α : Type} (V : S32x1.Idx → α) (r : Fin 32) (g : Fin 62) :
    broadcastTo S32x62 (shapeCast S32x1 V shapeCasts_S32x1_S32x1) broadcasts_S32x1_S32x62 (ix2 r g) = V (ix2 r 0) := by
  rw [shapeCast_id]
  simp only [pointwise]
  rfl

theorem column_is (r : Fin 32) (g g' : Fin 62) :
    cmpi .eq (iota .tc S32x62 32 [1] iota_S32x62_d1_w32) (broadcast S32x62 (BitVec.ofNat 32 g'.val)) (ix2 r g) = if g = g' then 1#1 else 0#1 := by
  rw [cmpi_apply, iota_single_apply]
  show IntOp.cmpi .eq (BitVec.ofNat 32 g.val) (BitVec.ofNat 32 g'.val) = _
  clear r
  revert g g'
  decide +kernel

theorem scaleRows_apply (hs : BSmall (arg3.view.read (Elt Ideal) X3)) (k : Fin k0_t1_loop.trips) (r : Fin 32) (g : Fin 62) :
    ∀ (n : ℕ) (e : Fin n → Fin 62), (∃ j, e j = g) →
      scaleRows X3 k n e (ix2 r g) = rscl (brow (arg3.view.read (Elt Ideal) X3) (srow k r)) g
  | 0, e, h => h.elim fun j _ => j.elim0
  | n + 1, e, h => by
    unfold scaleRows
    refine (ValueIdx.select_apply _ _ _ _).trans ?_
    rw [column_is]
    by_cases hg : g = e (Fin.last n)
    · rw [if_pos hg, wide_apply, pay8_apply _ (small_slab X3 hs k _), row_slab, ← hg]
      rfl
    · rw [if_neg hg]
      refine Eq.trans ?_ (scaleRows_apply hs k r g n (fun j => e j.castSucc) ?_)
      · rfl
      · obtain ⟨j, hj⟩ := h
        induction j using Fin.lastCases with
        | last => exact absurd hj.symm hg
        | cast j => exact ⟨j, hj⟩

theorem srow_emb (k : Fin k0_t1_loop.trips) (x : S32x62.Idx) :
    (Rect.unit (s := S512x62) (slabOff k 0) S32x62.size (srow_inb k)).emb x = ix2 (srow k (x 0)) (x 1) := by
  funext a
  apply Fin.ext
  match a with
  | ⟨0, _⟩ => show slabOff k 0 0 + 1 * (x 0).val = 32 * k.val + (x 0).val; rw [slabOff_zero, Nat.one_mul]
  | ⟨1, _⟩ => show 128 * 0 + 1 * (x 1).val = (x 1).val; omega

theorem sPiece_apply (hs : BSmall (arg3.view.read (Elt Ideal) X3)) (k : Fin k0_t1_loop.trips) (x : S32x62.Idx) :
    (sPiece X3 k).2 x = bscl (arg3.view.read (Elt Ideal) X3) ((sPiece X3 k).1.emb x) := by
  obtain ⟨r, g, rfl⟩ : ∃ (r : Fin 32) (g : Fin 62), x = ix2 r g := ⟨x 0, x 1, eq_ix2 x⟩
  refine Eq.trans ?_ (congrArg (bscl (arg3.view.read (Elt Ideal) X3)) (srow_emb k (ix2 r g))).symm
  exact scaleRows_apply X3 hs k r g 62 (fun g => g) ⟨g, rfl⟩

/-! The slabs cover the row block. -/

/-- The trip whose slab holds row `r`. -/
def tripOf (r : Fin 512) : Fin k0_t1_loop.trips := ⟨r.val / 32, trips_eq ▸ (by omega : r.val / 32 < 16)⟩

theorem mem_slab (y : S512x7936.Idx) :
    y ∈ (Rect.unit (s := S512x7936) (slabOff (tripOf (y 0)) (grp (y 1)).val) S32x128.size (slab_inb _ _)).set := by
  refine Rect.mem_set_unit.mpr fun a => ?_
  match a with
  | ⟨0, _⟩ =>
    show slabOff (tripOf (y 0)) (grp (y 1)).val 0 ≤ (y 0).val ∧ (y 0).val < slabOff (tripOf (y 0)) (grp (y 1)).val 0 + 32
    rw [slabOff_zero]
    show 32 * ((y 0).val / 32) ≤ (y 0).val ∧ (y 0).val < 32 * ((y 0).val / 32) + 32
    omega
  | ⟨1, _⟩ =>
    show 128 * ((y 1).val / 128) ≤ (y 1).val ∧ (y 1).val < 128 * ((y 1).val / 128) + 128
    omega

theorem mem_srow (y : S512x62.Idx) : y ∈ (Rect.unit (s := S512x62) (slabOff (tripOf (y 0)) 0) S32x62.size (srow_inb _)).set := by
  refine Rect.mem_set_unit.mpr fun a => ?_
  match a with
  | ⟨0, _⟩ =>
    show slabOff (tripOf (y 0)) 0 0 ≤ (y 0).val ∧ (y 0).val < slabOff (tripOf (y 0)) 0 0 + 32
    rw [slabOff_zero]
    show 32 * ((y 0).val / 32) ≤ (y 0).val ∧ (y 0).val < 32 * ((y 0).val / 32) + 32
    omega
  | ⟨1, _⟩ =>
    have : (y 1).val < 62 := (y 1).isLt
    show 128 * 0 ≤ (y 1).val ∧ (y 1).val < 128 * 0 + 62
    omega

end

/-- What a loop's pieces are, from what each trip adds. -/
theorem mem_steps {α : Type} {T : ℕ} (L : ℕ → List α) (A : Fin T → List α) (h0 : L 0 = []) (hs : ∀ k : Fin T, L (k.val + 1) = A k ++ L k.val) (p : α) :
    p ∈ L T ↔ ∃ k, p ∈ A k := by
  have key : ∀ n : ℕ, n ≤ T → (p ∈ L n ↔ ∃ k : Fin T, k.val < n ∧ p ∈ A k) := by
    intro n
    induction n with
    | zero => intro _; rw [h0]; exact ⟨fun h => absurd h List.not_mem_nil, fun ⟨_, h, _⟩ => absurd h (Nat.not_lt_zero _)⟩
    | succ n ih =>
      intro hn
      rw [show L (n + 1) = _ from hs ⟨n, hn⟩, List.mem_append, ih (Nat.le_of_succ_le hn)]
      constructor
      · rintro (h | ⟨k, hk, h⟩)
        exacts [⟨⟨n, hn⟩, Nat.lt_succ_self n, h⟩, ⟨k, Nat.lt_succ_of_lt hk, h⟩]
      · rintro ⟨k, hk, h⟩
        rcases Nat.lt_succ_iff_lt_or_eq.mp hk with hk | hk
        · exact Or.inr ⟨k, hk, h⟩
        · exact Or.inl ((Fin.ext hk : k = ⟨n, hn⟩) ▸ h)
  rw [key T le_rfl]
  exact exists_congr fun k => ⟨fun h => h.2, fun h => ⟨k.isLt, h⟩⟩

section
variable (c : Dev nD) (i : grid0.Coords)
  {arg2 : Memref sig .tc .smem S51x62 .f32} (harg2 : arg2.IsWhole)
  {arg3 : Memref sig .tc .vmem S512x7936 .bf16} (harg3 : arg3.IsWhole)
  {arg4 : Memref sig .tc .vmem S512x7936 .fp8e4m3} (harg4 : arg4.IsWhole)
  {arg5 : Memref sig .tc .vmem S512x512 .bf16} (harg5 : arg5.IsWhole)
  {arg6 : Memref sig .tc .vmem S512x512 .bf16} (harg6 : arg6.IsWhole)
  {arg7 : Memref sig .tc .vmem S512x128 .bf16} (harg7 : arg7.IsWhole)
  {arg8 : Memref sig .tc .vmem S512x128 .bf16} (harg8 : arg8.IsWhole)
  {arg9 : Memref sig .tc .vmem S512x48 .bf16} (harg9 : arg9.IsWhole)
  {arg10 : Memref sig .tc .vmem S512x7936 .fp8e4m3} (harg10 : arg10.IsWhole)
  {arg11 : Memref sig .tc .vmem S512x62 .f32} (harg11 : arg11.IsWhole)
  {arg12 : Memref sig .tc .vmem S512x7936 .bf16} (harg12 : arg12.IsWhole)
  {arg13 : Memref sig .tc .vmem S512x7936 .bf16} (harg13 : arg13.IsWhole)

theorem mem_codes (h1 : k0_cond1 i = 1#1) (X3 : BufTy.Contents (Elt Ideal) arg3.view.ty) (p : View.Piece (Elt Ideal) S512x7936 .fp8e4m3) :
    p ∈ (pieces c i harg2 harg3 harg4 harg5 harg6 harg7 harg8 harg9 harg10 harg11 harg12 harg13 h1 X3).1 ↔ ∃ (k : Fin k0_t1_loop.trips) (g : Fin 62), p = cPiece X3 k g := by
  refine (mem_steps (fun n => (pb_k0_t1 (F := Ideal) Variants.none c none i arg2 harg2 arg3 harg3 arg4 harg4 arg5 harg5 arg6 harg6 arg7 harg7 arg8 harg8 arg9 harg9 arg10 harg10 arg11 harg11 arg12 harg12 arg13 harg13 h1 X3 n).1) (fun k => down 62 (fun g => cPiece X3 k g)) ?_ (fun k => ?_) p).trans
    (exists_congr fun k => mem_down)
  · exact congrArg Prod.fst (pb_k0_t1.eq_1 (F := Ideal) Variants.none c none i arg2 harg2 arg3 harg3 arg4 harg4 arg5 harg5 arg6 harg6 arg7 harg7 arg8 harg8 arg9 harg9 arg10 harg10 arg11 harg11 arg12 harg12 arg13 harg13 h1 X3)
  · refine (congrArg Prod.fst (pb_k0_t1_succ (F := Ideal) Variants.none c none i arg2 harg2 arg3 harg3 arg4 harg4 arg5 harg5 arg6 harg6 arg7 harg7 arg8 harg8 arg9 harg9 arg10 harg10 arg11 harg11 arg12 harg12 arg13 harg13 h1 X3 k)).trans ?_
    unfold tripL_k0_t1
    exact congrArg (· ++ _) (tripL_codes c i harg2 harg3 harg4 harg5 harg6 harg7 harg8 harg9 harg10 harg11 harg12 harg13 h1 X3 k)

theorem mem_scales (h1 : k0_cond1 i = 1#1) (X3 : BufTy.Contents (Elt Ideal) arg3.view.ty) (p : View.Piece (Elt Ideal) S512x62 .f32) :
    p ∈ (pieces c i harg2 harg3 harg4 harg5 harg6 harg7 harg8 harg9 harg10 harg11 harg12 harg13 h1 X3).2.1 ↔ ∃ k : Fin k0_t1_loop.trips, p = sPiece X3 k := by
  refine (mem_steps (fun n => (pb_k0_t1 (F := Ideal) Variants.none c none i arg2 harg2 arg3 harg3 arg4 harg4 arg5 harg5 arg6 harg6 arg7 harg7 arg8 harg8 arg9 harg9 arg10 harg10 arg11 harg11 arg12 harg12 arg13 harg13 h1 X3 n).2.1) (fun k => [sPiece X3 k]) ?_ (fun k => ?_) p).trans
    (exists_congr fun k => List.mem_singleton)
  · exact congrArg (fun x => x.2.1) (pb_k0_t1.eq_1 (F := Ideal) Variants.none c none i arg2 harg2 arg3 harg3 arg4 harg4 arg5 harg5 arg6 harg6 arg7 harg7 arg8 harg8 arg9 harg9 arg10 harg10 arg11 harg11 arg12 harg12 arg13 harg13 h1 X3)
  · refine (congrArg (fun x => x.2.1) (pb_k0_t1_succ (F := Ideal) Variants.none c none i arg2 harg2 arg3 harg3 arg4 harg4 arg5 harg5 arg6 harg6 arg7 harg7 arg8 harg8 arg9 harg9 arg10 harg10 arg11 harg11 arg12 harg12 arg13 harg13 h1 X3 k)).trans ?_
    unfold tripL_k0_t1
    exact congrArg (· ++ _) (tripL_scales c i harg2 harg3 harg4 harg5 harg6 harg7 harg8 harg9 harg10 harg11 harg12 harg13 h1 X3 k)

theorem mem_deqs (h1 : k0_cond1 i = 1#1) (X3 : BufTy.Contents (Elt Ideal) arg3.view.ty) (p : View.Piece (Elt Ideal) S512x7936 .bf16) :
    p ∈ (pieces c i harg2 harg3 harg4 harg5 harg6 harg7 harg8 harg9 harg10 harg11 harg12 harg13 h1 X3).2.2 ↔ ∃ (k : Fin k0_t1_loop.trips) (g : Fin 62), p = dPiece X3 k g := by
  refine (mem_steps (fun n => (pb_k0_t1 (F := Ideal) Variants.none c none i arg2 harg2 arg3 harg3 arg4 harg4 arg5 harg5 arg6 harg6 arg7 harg7 arg8 harg8 arg9 harg9 arg10 harg10 arg11 harg11 arg12 harg12 arg13 harg13 h1 X3 n).2.2) (fun k => down 62 (fun g => dPiece X3 k g)) ?_ (fun k => ?_) p).trans
    (exists_congr fun k => mem_down)
  · exact congrArg (fun x => x.2.2) (pb_k0_t1.eq_1 (F := Ideal) Variants.none c none i arg2 harg2 arg3 harg3 arg4 harg4 arg5 harg5 arg6 harg6 arg7 harg7 arg8 harg8 arg9 harg9 arg10 harg10 arg11 harg11 arg12 harg12 arg13 harg13 h1 X3)
  · refine (congrArg (fun x => x.2.2) (pb_k0_t1_succ (F := Ideal) Variants.none c none i arg2 harg2 arg3 harg3 arg4 harg4 arg5 harg5 arg6 harg6 arg7 harg7 arg8 harg8 arg9 harg9 arg10 harg10 arg11 harg11 arg12 harg12 arg13 harg13 h1 X3 k)).trans ?_
    unfold tripL_k0_t1
    exact congrArg (· ++ _) (tripL_deq c i harg2 harg3 harg4 harg5 harg6 harg7 harg8 harg9 harg10 harg11 harg12 harg13 h1 X3 k)

variable (h1 : k0_cond1 i = 1#1) (X3 : BufTy.Contents (Elt Ideal) arg3.view.ty) (hs : BSmall (arg3.view.read (Elt Ideal) X3))
include hs

/-- The codes the loop leaves. -/
theorem codes_read (f : BufTy.Contents (Elt Ideal) arg10.view.ty) :
    arg10.view.read (Elt Ideal) (arg10.view.writes (Elt Ideal) f (pieces c i harg2 harg3 harg4 harg5 harg6 harg7 harg8 harg9 harg10 harg11 harg12 harg13 h1 X3).1) = bcode (arg3.view.read (Elt Ideal) X3) := by
  funext y
  refine View.read_writes_apply_of_pieces _ _ _ _ (fun p hp x => ?_) y ⟨cPiece X3 (tripOf (y 0)) (grp (y 1)), ?_, mem_slab y⟩
  · obtain ⟨k, g, rfl⟩ := (mem_codes c i harg2 harg3 harg4 harg5 harg6 harg7 harg8 harg9 harg10 harg11 harg12 harg13 h1 X3 p).mp hp
    exact cPiece_apply X3 hs k g x
  · exact (mem_codes c i harg2 harg3 harg4 harg5 harg6 harg7 harg8 harg9 harg10 harg11 harg12 harg13 h1 X3 _).mpr ⟨_, _, rfl⟩

/-- The scales the loop leaves. -/
theorem scales_read (f : BufTy.Contents (Elt Ideal) arg11.view.ty) :
    arg11.view.read (Elt Ideal) (arg11.view.writes (Elt Ideal) f (pieces c i harg2 harg3 harg4 harg5 harg6 harg7 harg8 harg9 harg10 harg11 harg12 harg13 h1 X3).2.1) = bscl (arg3.view.read (Elt Ideal) X3) := by
  funext y
  refine View.read_writes_apply_of_pieces _ _ _ _ (fun p hp x => ?_) y ⟨sPiece X3 (tripOf (y 0)), ?_, mem_srow y⟩
  · obtain ⟨k, rfl⟩ := (mem_scales c i harg2 harg3 harg4 harg5 harg6 harg7 harg8 harg9 harg10 harg11 harg12 harg13 h1 X3 p).mp hp
    exact sPiece_apply X3 hs k x
  · exact (mem_scales c i harg2 harg3 harg4 harg5 harg6 harg7 harg8 harg9 harg10 harg11 harg12 harg13 h1 X3 _).mpr ⟨_, rfl⟩

/-- The dequantised copy the loop leaves. -/
theorem deq_read (f : BufTy.Contents (Elt Ideal) arg12.view.ty) :
    arg12.view.read (Elt Ideal) (arg12.view.writes (Elt Ideal) f (pieces c i harg2 harg3 harg4 harg5 harg6 harg7 harg8 harg9 harg10 harg11 harg12 harg13 h1 X3).2.2) = bdeq (arg3.view.read (Elt Ideal) X3) := by
  funext y
  refine View.read_writes_apply_of_pieces _ _ _ _ (fun p hp x => ?_) y ⟨dPiece X3 (tripOf (y 0)) (grp (y 1)), ?_, mem_slab y⟩
  · obtain ⟨k, g, rfl⟩ := (mem_deqs c i harg2 harg3 harg4 harg5 harg6 harg7 harg8 harg9 harg10 harg11 harg12 harg13 h1 X3 p).mp hp
    exact dPiece_apply X3 hs k g x
  · exact (mem_deqs c i harg2 harg3 harg4 harg5 harg6 harg7 harg8 harg9 harg10 harg11 harg12 harg13 h1 X3 _).mpr ⟨_, _, rfl⟩

end

end Cert.KernelIdeal.Hand

end
-- ==== Proof.Ideal.KTile.lean ====
module

public import proofs.«01_k».proof.Proof.Ideal.KBlock
public import Idealize.ShloMosaic.Lib.VecWindow

@[expose] public section

set_option maxRecDepth 16384

/-!
The dequantised weight tile and the tiles of the product, element by element, over the extended reals.
-/

noncomputable section

namespace Cert.KernelIdeal.Hand

open Idealize.ShloMosaic Idealize.ShloMosaic.TcCoe Idealize.ShloMosaic.Tactic
open Cert.KernelIdeal.Gen Cert.Spec

/-- The scales' row that block row `rb` of tile `j` takes. -/
def wsRow (j : Fin 13) (rb : Fin 4) : Fin 51 := ⟨min (4 * j.val + rb.val) 50, by omega⟩

/-- The block row of a tile a row lies in. -/
def rblk (n : Fin 512) : Fin 4 := ⟨n.val / 128, by omega⟩

/-- A weight tile scaled. -/
def btile (j : Fin 13) (X2 : S51x62.Idx → EReal) (X4 : S512x7936.Idx → EReal) : S512x7936.Idx → EReal :=
  fun y => X4 y * X2 (ix2 (wsRow j (rblk (y 0))) (grp (y 1)))

/-- A row block's copy against a weight tile. -/
def bprod (A B : S512x7936.Idx → EReal) (r n : Fin 512) : EReal := ∑ k : Fin 7936, A (ix2 r k) * B (ix2 n k)

section
variable {arg2 : Memref sig .tc .smem S51x62 .f32} {arg4 : Memref sig .tc .vmem S512x7936 .fp8e4m3} (i : grid0.Coords)
  (X2 : BufTy.Contents (Elt Ideal) arg2.view.ty) (X4 : BufTy.Contents (Elt Ideal) arg4.view.ty)

theorem wsOff_zero (rb : Fin 4) (g : ℕ) : wsOff i (BitVec.ofNat 32 rb.val) g 0 = min (4 * (i 1).val + rb.val) 50 := by
  have key : ∀ (j : Fin 13) (rb : Fin 4),
      (Scalar.indexCast (Scalar.minsi (Scalar.addi (Scalar.muli (BitVec.ofNat 32 j.val) 4#32) (BitVec.ofNat 32 rb.val)) 50#32)).toNat
        = min (4 * j.val + rb.val) 50 := by decide +kernel
  exact key (i 1) rb

theorem wsAt_apply (rb : Fin 4) (g : Fin 62) :
    wsAt (F := Ideal) i X2 rb g = arg2.view.read (Elt Ideal) X2 (ix2 (wsRow (i 1) rb) g) := by
  refine congrArg (arg2.view.read (Elt Ideal) X2) ?_
  funext a
  apply Fin.ext
  match a with
  | ⟨0, _⟩ => show wsOff i (BitVec.ofNat 32 rb.val) g.val 0 + 1 * 0 = min (4 * (i 1).val + rb.val) 50; rw [wsOff_zero]; omega
  | ⟨1, _⟩ => show g.val + 1 * 0 = g.val; omega

theorem wdeqBlk_apply (s : EReal) (v : Vec Ideal S128x128 .fp8e4m3) (x : S128x128.Idx) : wdeqBlk (F := Ideal) s v x = v x * s := by
  unfold wdeqBlk
  rw [shapeCast_id]
  rfl

theorem wblk_emb (rb : Fin 4) (g : Fin 62) (r l : Fin 128) :
    (Rect.unit (s := S512x7936) ![128 * rb.val, 128 * g.val] S128x128.size (wblk_inb rb g)).emb (ix2 r l)
      = ix2 (⟨128 * rb.val + r.val, by omega⟩ : Fin 512) (col g l) := by
  funext a
  apply Fin.ext
  match a with
  | ⟨0, _⟩ => show 128 * rb.val + 1 * r.val = 128 * rb.val + r.val; omega
  | ⟨1, _⟩ => show 128 * g.val + 1 * l.val = 128 * g.val + l.val; omega

theorem wPiece_apply (rb : Fin 4) (g : Fin 62) (x : S128x128.Idx) :
    (wPiece (F := Ideal) i X2 X4 rb g).2 x = btile (i 1) (arg2.view.read (Elt Ideal) X2) (arg4.view.read (Elt Ideal) X4) ((wPiece (F := Ideal) i X2 X4 rb g).1.emb x) := by
  obtain ⟨r, l, rfl⟩ : ∃ (r l : Fin 128), x = ix2 r l := ⟨x 0, x 1, eq_ix2 x⟩
  refine Eq.trans ?_ (congrArg (btile (i 1) (arg2.view.read (Elt Ideal) X2) (arg4.view.read (Elt Ideal) X4)) (wblk_emb rb g r l)).symm
  refine (wdeqBlk_apply _ _ _).trans ?_
  have e1 : rblk (⟨128 * rb.val + r.val, by omega⟩ : Fin 512) = rb := Fin.ext (by simp only [rblk]; omega)
  have e2 : wsAt (F := Ideal) i X2 rb g = arg2.view.read (Elt Ideal) X2
      (ix2 (wsRow (i 1) (rblk (⟨128 * rb.val + r.val, by omega⟩ : Fin 512))) (grp (col g l))) := by
    rw [wsAt_apply, e1, grp_col]
  exact congrArg₂ (· * ·) (congrArg (arg4.view.read (Elt Ideal) X4) (wblk_emb rb g r l)) e2

theorem mem_wPieces (p : View.Piece (Elt Ideal) S512x7936 .bf16) : p ∈ wPieces i X2 X4 ↔ ∃ (rb : Fin 4) (g : Fin 62), p = wPiece i X2 X4 rb g := by
  unfold wPieces
  rw [List.mem_append, List.mem_append, List.mem_append, mem_down, mem_down, mem_down, mem_down]
  constructor
  · rintro (⟨g, h⟩ | ⟨g, h⟩ | ⟨g, h⟩ | ⟨g, h⟩)
    exacts [⟨3, g, h⟩, ⟨2, g, h⟩, ⟨1, g, h⟩, ⟨0, g, h⟩]
  · rintro ⟨rb, g, h⟩
    match rb, h with
    | 0, h => exact Or.inr (Or.inr (Or.inr ⟨g, h⟩))
    | 1, h => exact Or.inr (Or.inr (Or.inl ⟨g, h⟩))
    | 2, h => exact Or.inr (Or.inl ⟨g, h⟩)
    | 3, h => exact Or.inl ⟨g, h⟩

/-- The weight tile's stores leave the tile scaled. -/
theorem ldW_eq (arg13 : Memref sig .tc .vmem S512x7936 .bf16) :
    ldW arg13 i X2 X4 = btile (i 1) (arg2.view.read (Elt Ideal) X2) (arg4.view.read (Elt Ideal) X4) := by
  refine (View.readAt_full arg13.view (arg13.view.writes (Elt Ideal) arg13.view.junk (wPieces i X2 X4)) inb_S512x7936_S512x7936_0_0).trans ?_
  funext y
  refine View.read_writes_apply_of_pieces _ _ _ _ (fun p hp x => ?_) y ⟨wPiece i X2 X4 (rblk (y 0)) (grp (y 1)), (mem_wPieces i X2 X4 _).mpr ⟨_, _, rfl⟩, ?_⟩
  · obtain ⟨rb, g, rfl⟩ := (mem_wPieces i X2 X4 p).mp hp
    exact wPiece_apply i X2 X4 rb g x
  · refine (Rect.mem_set_unit (inb := wblk_inb (rblk (y 0)) (grp (y 1)))).mpr fun a => ?_
    match a with
    | ⟨0, _⟩ => show 128 * ((y 0).val / 128) ≤ (y 0).val ∧ (y 0).val < 128 * ((y 0).val / 128) + 128; omega
    | ⟨1, _⟩ => show 128 * ((y 1).val / 128) ≤ (y 1).val ∧ (y 1).val < 128 * ((y 1).val / 128) + 128; omega

end

theorem ldU_eq {arg12 : Memref sig .tc .vmem S512x7936 .bf16} (X12 : BufTy.Contents (Elt Ideal) arg12.view.ty) :
    ldU X12 = arg12.view.read (Elt Ideal) X12 := View.readAt_full arg12.view X12 inb_S512x7936_S512x7936_0_0

theorem pay786_apply (A B : Vec Ideal S512x7936 .bf16) (r n : Fin 512) : k0_pay786 A B (ix2 r n) = bprod A B r n := by
  unfold k0_pay786
  refine (Ideal.matmul_transposedRhs_apply none A B _ r n).trans ?_
  have h0 : constant (F := Ideal) S512x512 .f32 0x00000000#32 (ValueIdx.ix2 r n) = (0 : EReal) := Quant.zero_eq
  rw [h0, zero_add]
  rfl

theorem pay787_apply (A B : Vec Ideal S512x7936 .bf16) (r n : Fin 512) : k0_pay787 A B (ix2 r n) = bprod A B r n := pay786_apply A B r n

theorem pay1_apply (A B : Vec Ideal S512x7936 .bf16) (r n : Fin 512) : k0_pay1 (k0_pay786 A B) (ix2 r n) = bprod A B r n := pay786_apply A B r n

theorem pay2_apply (A B : Vec Ideal S512x7936 .bf16) (r : Fin 512) (n : Fin 128) :
    k0_pay2 (k0_pay786 A B) (ix2 r n) = bprod A B r ⟨n.val, by omega⟩ := by
  refine Eq.trans (b := k0_pay786 A B (ix2 r ⟨n.val, by omega⟩)) ?_ (pay786_apply A B r _)
  refine congrArg (k0_pay786 A B) ?_
  funext a
  apply Fin.ext
  match a with
  | ⟨0, _⟩ => show 0 + r.val = r.val; omega
  | ⟨1, _⟩ => show 0 + n.val = n.val; omega

theorem pay3_apply (A B : Vec Ideal S512x7936 .bf16) (r : Fin 512) (n : Fin 128) :
    k0_pay3 (k0_pay786 A B) (ix2 r n) = bprod A B r ⟨128 + n.val, by omega⟩ := by
  refine Eq.trans (b := k0_pay786 A B (ix2 r ⟨128 + n.val, by omega⟩)) ?_ (pay786_apply A B r _)
  refine congrArg (k0_pay786 A B) ?_
  funext a
  apply Fin.ext
  match a with
  | ⟨0, _⟩ => show 0 + r.val = r.val; omega
  | ⟨1, _⟩ => rfl

theorem pay4_apply (A B : Vec Ideal S512x7936 .bf16) (r : Fin 512) (n : Fin 48) :
    k0_pay4 (k0_pay786 A B) (ix2 r n) = bprod A B r ⟨256 + n.val, by omega⟩ := by
  refine Eq.trans (b := k0_pay786 A B (ix2 r ⟨256 + n.val, by omega⟩)) ?_ (pay786_apply A B r _)
  refine congrArg (k0_pay786 A B) ?_
  funext a
  apply Fin.ext
  match a with
  | ⟨0, _⟩ => show 0 + r.val = r.val; omega
  | ⟨1, _⟩ => rfl

end Cert.KernelIdeal.Hand

end
-- ==== Proof.Ideal.KPoints.lean ====
module

public import proofs.«01_k».proof.Proof.Ideal.KTile
public import Idealize.ShloMosaic.Lib.Pipeline.ValueKit.Geometry

@[expose] public section

set_option maxRecDepth 16384

/-!
The kernel's blocks point by point, and the tile of the projection a point's body computes from them.
-/

noncomputable section

namespace Cert.KernelIdeal.Hand

open Idealize.ShloMosaic Idealize.ShloMosaic.TcCoe Idealize.ShloMosaic.Tactic
open Cert.KernelIdeal.Gen Cert.Spec

/-! ### The grid's points and the blocks' places -/

/-- A point's row block. -/
def pi (t : Fin grid0.N) : Fin 8 := ⟨t.val / 13, by have h : t.val < 104 := t.isLt; omega⟩
/-- A point's feature tile. -/
def pj (t : Fin grid0.N) : Fin 13 := ⟨t.val % 13, by omega⟩

theorem coord1_val : ∀ t : Fin grid0.N, (grid0.coords t 1).val = t.val % 13 := by decide +kernel
theorem coord1 (t : Fin grid0.N) : grid0.coords t 1 = pj t := Fin.ext (coord1_val t)
theorem index1 : ∀ t : Fin grid0.N, win0_1.index t = ![(pi t).val, 0] := by decide +kernel
theorem index2 : ∀ t : Fin grid0.N, win0_2.index t = ![(pj t).val, 0] := by decide +kernel
theorem xsize2 : ∀ t : Fin grid0.N, win0_2.xsize (grid0.coords t) 0 = (if (pj t).val = 12 then 304 else 512) ∧ win0_2.xsize (grid0.coords t) 1 = 7936 := by
  decide +kernel
theorem index0 : ∀ t : Fin grid0.N, win0_0.index t = ![0, 0] := by decide +kernel
theorem index3 : ∀ t : Fin grid0.N, win0_3.index t = ![(pi t).val, min (pj t).val 5] := by decide +kernel
theorem index4 : ∀ t : Fin grid0.N, win0_4.index t = ![(pi t).val, min ((pj t).val - 6) 5] := by decide +kernel
theorem index5 : ∀ t : Fin grid0.N, win0_5.index t = ![(pi t).val, 0] := by decide +kernel
theorem index6 : ∀ t : Fin grid0.N, win0_6.index t = ![(pi t).val, 0] := by decide +kernel
theorem index7 : ∀ t : Fin grid0.N, win0_7.index t = ![(pi t).val, 0] := by decide +kernel
theorem index8 : ∀ t : Fin grid0.N, win0_8.index t = ![(pi t).val, 0] := by decide +kernel
theorem index9 : ∀ t : Fin grid0.N, win0_9.index t = ![(pi t).val, 0] := by decide +kernel

/-- Row `r` of row block `i`. -/
def grow (i : Fin 8) (r : Fin 512) : Fin 4096 := ⟨512 * i.val + r.val, by omega⟩

variable (m : (ℓ : Loc nD τ sig) → Buf (Elt Ideal) ℓ) (c : Dev nD)

/-- The activations, as the region finds them. -/
abbrev aU : S4096x7936.Idx → EReal := V m c main_v0
/-- The weights' codes. -/
abbrev aW : S6448x7936.Idx → EReal := V m c main_arg1
/-- The weights' scales. -/
abbrev aS : S51x62.Idx → EReal := V m c main_arg2

theorem iblk0_apply (t : Fin grid0.N) (a : Fin 51) (g : Fin 62) : iblk m c 0 t (ix2 a g) = aS m c (ix2 a g) := by
  refine congrArg (aS m c) ?_
  funext k
  apply Fin.ext
  have h0 : win0_0.index t 0 = 0 := by rw [index0]; rfl
  have h1 : win0_0.index t 1 = 0 := by rw [index0]; rfl
  match k with
  | ⟨0, _⟩ => show win0_0.index t 0 * 51 + 1 * a.val = a.val; rw [h0]; omega
  | ⟨1, _⟩ => show win0_0.index t 1 * 62 + 1 * g.val = g.val; rw [h1]; omega

theorem iblk1_apply (t : Fin grid0.N) (r : Fin 512) (k : Fin 7936) : iblk m c 1 t (ix2 r k) = aU m c (ix2 (grow (pi t) r) k) := by
  refine congrArg (aU m c) ?_
  funext a
  apply Fin.ext
  have h0 : win0_1.index t 0 = (pi t).val := by rw [index1]; rfl
  have h1 : win0_1.index t 1 = 0 := by rw [index1]; rfl
  match a with
  | ⟨0, _⟩ => show win0_1.index t 0 * 512 + 1 * r.val = 512 * (pi t).val + r.val; rw [h0]; omega
  | ⟨1, _⟩ => show win0_1.index t 1 * 7936 + 1 * k.val = k.val; rw [h1]; omega

theorem fill2_apply (t : Fin grid0.N) (d : S512x7936.Idx → EReal) (n : Fin 512) (k : Fin 7936) (h : 512 * (pj t).val + n.val < 6448) :
    win0_2.fill (grid0.coords t) d (iblk m c 2 t) (ix2 n k) = aW m c (ix2 ⟨512 * (pj t).val + n.val, h⟩ k) := by
  have hm : win0_2.moved (grid0.coords t) (ix2 n k) = true := (win0_2.moved_iff _ _).mpr fun a => by
    match a with
    | ⟨0, _⟩ =>
      show n.val < win0_2.xsize (grid0.coords t) 0
      rw [(xsize2 t).1]
      split <;> omega
    | ⟨1, _⟩ =>
      show k.val < win0_2.xsize (grid0.coords t) 1
      rw [(xsize2 t).2]
      exact k.isLt
  unfold Pipeline.Window.fill
  rw [dif_pos hm]
  refine congrArg (aW m c) ?_
  funext a
  apply Fin.ext
  have h0 : win0_2.index t 0 = (pj t).val := by rw [index2]; rfl
  have h1 : win0_2.index t 1 = 0 := by rw [index2]; rfl
  match a with
  | ⟨0, _⟩ => show win0_2.index t 0 * 512 + 1 * n.val = 512 * (pj t).val + n.val; rw [h0]; omega
  | ⟨1, _⟩ => show win0_2.index t 1 * 7936 + 1 * k.val = k.val; rw [h1]; omega

theorem brow_iblk (t : Fin grid0.N) (r : Fin 512) : brow (iblk m c 1 t) r = urow (aU m c) (grow (pi t) r) :=
  funext fun k => iblk1_apply m c t r k

theorem iblk1_congr (t t' : Fin grid0.N) (h : pi t = pi t') : (iblk m c 1 t : S512x7936.Idx → EReal) = iblk m c 1 t' := by
  funext y
  obtain ⟨r, k, rfl⟩ : ∃ (r : Fin 512) (k : Fin 7936), y = ix2 r k := ⟨y 0, y 1, eq_ix2 y⟩
  rw [iblk1_apply, iblk1_apply, h]

/-- The tile of the projection that a point's body computes. -/
theorem tile_apply (t : Fin grid0.N) (X4 : S512x7936.Idx → EReal)
    (hX4 : ∀ (n : Fin 512) (k : Fin 7936) (h : 512 * (pj t).val + n.val < 6448), X4 (ix2 n k) = aW m c (ix2 ⟨512 * (pj t).val + n.val, h⟩ k))
    (r n : Fin 512) (h : 512 * (pj t).val + n.val < 6448) :
    bprod (bdeq (iblk m c 1 t)) (btile (grid0.coords t 1) (iblk m c 0 t) X4) r n
      = proj (aU m c) (aW m c) (aS m c) (grow (pi t) r) ⟨512 * (pj t).val + n.val, h⟩ := by
  refine Finset.sum_congr rfl fun k _ => ?_
  refine congrArg₂ (· * ·) ?_ ?_
  · show rdeq (brow (iblk m c 1 t) r) k = _
    rw [brow_iblk]
  · show X4 (ix2 n k) * iblk m c 0 t (ix2 (wsRow (grid0.coords t 1) (rblk n)) (grp k)) = _
    rw [hX4 n k h, iblk0_apply]
    refine congrArg (fun a => aW m c (ix2 ⟨512 * (pj t).val + n.val, h⟩ k) * aS m c (ix2 a (grp k))) (Fin.ext ?_)
    rw [coord1]
    show min (4 * (pj t).val + n.val / 128) 50 = (512 * (pj t).val + n.val) / 128
    omega

end Cert.KernelIdeal.Hand

end
-- ==== Proof.Ideal.KContents.lean ====
module

public import proofs.«01_k».proof.Proof.Ideal.KPoints

@[expose] public section

set_option maxRecDepth 16384
set_option maxHeartbeats 4000000

/-!
The kernel's body at a grid point, course by course, with what it leaves in every buffer it stores into.
-/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen Cert.Spec

local notation "𝕄" => MT nD τ sig Unit (Elt Ideal) ℕ (UR sig nD τ) ℕ

variable (m : (ℓ : Loc nD τ sig) → Buf (Elt Ideal) ℓ)

/-! ### What the results' buffers hold -/

section
variable (c : Dev nD) (t : Fin grid0.N)

/-- The tile of `z` the point's block of it is. -/
def out3 : S512x512.Idx → EReal := fun y => z (aU m c) (aW m c) (aS m c)
  (ix2 (grow (pi t) (y 0)) ⟨512 * min (pj t).val 5 + (y 1).val, by have : (y 1).val < 512 := (y 1).isLt; omega⟩)
/-- The tile of `x` the point's block of it is. -/
def out4 : S512x512.Idx → EReal := fun y => x (aU m c) (aW m c) (aS m c)
  (ix2 (grow (pi t) (y 0)) ⟨512 * min ((pj t).val - 6) 5 + (y 1).val, by have : (y 1).val < 512 := (y 1).isLt; omega⟩)
/-- The row block of `B`. -/
def out5 : S512x128.Idx → EReal := fun y => b (aU m c) (aW m c) (aS m c) (ix2 (grow (pi t) (y 0)) (y 1))
/-- The row block of `C`. -/
def out6 : S512x128.Idx → EReal := fun y => Spec.c (aU m c) (aW m c) (aS m c) (ix2 (grow (pi t) (y 0)) (y 1))
/-- The row block of `dt`. -/
def out7 : S512x48.Idx → EReal := fun y => dt (aU m c) (aW m c) (aS m c) (ix2 (grow (pi t) (y 0)) (y 1))
/-- The row block of the codes. -/
def out8 : S512x7936.Idx → EReal := fun y => codes (aU m c) (ix2 (grow (pi t) (y 0)) (y 1))
/-- The row block of the scales. -/
def out9 : S512x62.Idx → EReal := fun y => scales (aU m c) (ix2 (grow (pi t) (y 0)) (y 1))

theorem bcode_iblk : bcode (iblk m c 1 t) = out8 m c t :=
  funext fun y => congrArg (fun w => rcode w (y 1)) (brow_iblk m c t (y 0))

theorem bscl_iblk : bscl (iblk m c 1 t) = out9 m c t :=
  funext fun y => congrArg (fun w => rscl w (y 1)) (brow_iblk m c t (y 0))

/-- The weight tile the point loads, whatever its buffer holds past the array's end. -/
abbrev wtile (d : S512x7936.Idx → EReal) : S512x7936.Idx → EReal := win0_2.fill (grid0.coords t) d (iblk m c 2 t)

/-- The point's tile of the projection. -/
abbrev ptile (d : S512x7936.Idx → EReal) (r n : Fin 512) : EReal :=
  bprod (bdeq (iblk m c 1 t)) (btile (grid0.coords t 1) (iblk m c 0 t) (wtile m c t d)) r n

theorem ptile_apply (d : S512x7936.Idx → EReal) (r n : Fin 512) (h : 512 * (pj t).val + n.val < 6448) (n' : Fin 6448) (hn : n'.val = 512 * (pj t).val + n.val) :
    ptile m c t d r n = proj (aU m c) (aW m c) (aS m c) (grow (pi t) r) n' :=
  (tile_apply m c t _ (fun n k h => fill2_apply m c t d n k h) r n h).trans (congrArg _ (Fin.ext hn.symm))

theorem ptile_z (d : S512x7936.Idx → EReal) (h2 : k0_cond2 (grid0.coords t) = 1#1) (r n : Fin 512) : ptile m c t d r n = out3 m c t (ix2 r n) := by
  have hj : (pj t).val < 6 := by
    have key : ∀ t : Fin grid0.N, k0_cond2 (grid0.coords t) = 1#1 → t.val % 13 < 6 := by decide +kernel
    exact key t h2
  refine ptile_apply m c t d r n (by omega) _ ?_
  show 512 * min (pj t).val 5 + n.val = _
  omega

theorem ptile_x (d : S512x7936.Idx → EReal) (h3 : k0_cond3 (grid0.coords t) = 1#1) (r n : Fin 512) : ptile m c t d r n = out4 m c t (ix2 r n) := by
  have hj : 6 ≤ (pj t).val ∧ (pj t).val < 12 := by
    have key : ∀ t : Fin grid0.N, k0_cond3 (grid0.coords t) = 1#1 → 6 ≤ t.val % 13 ∧ t.val % 13 < 12 := by decide +kernel
    exact key t h3
  refine ptile_apply m c t d r n (by omega) _ ?_
  show 3072 + (512 * min ((pj t).val - 6) 5 + n.val) = _
  omega

theorem last_point (h4 : k0_cond4 (grid0.coords t) = 1#1) : (pj t).val = 12 := by
  have key : ∀ t : Fin grid0.N, k0_cond4 (grid0.coords t) = 1#1 → t.val % 13 = 12 := by decide +kernel
  exact key t h4

theorem ptile_b (d : S512x7936.Idx → EReal) (h4 : k0_cond4 (grid0.coords t) = 1#1) (r : Fin 512) (n : Fin 128) :
    ptile m c t d r ⟨n.val, by omega⟩ = out5 m c t (ix2 r n) := by
  have hj := last_point t h4
  refine ptile_apply m c t d r _ (by simp only; omega) _ ?_
  show 6144 + n.val = 512 * (pj t).val + n.val
  omega

theorem ptile_c (d : S512x7936.Idx → EReal) (h4 : k0_cond4 (grid0.coords t) = 1#1) (r : Fin 512) (n : Fin 128) :
    ptile m c t d r ⟨128 + n.val, by omega⟩ = out6 m c t (ix2 r n) := by
  have hj := last_point t h4
  refine ptile_apply m c t d r _ (by simp only; omega) _ ?_
  show 6272 + n.val = 512 * (pj t).val + (128 + n.val)
  omega

theorem ptile_dt (d : S512x7936.Idx → EReal) (h4 : k0_cond4 (grid0.coords t) = 1#1) (r : Fin 512) (n : Fin 48) :
    ptile m c t d r ⟨256 + n.val, by omega⟩ = out7 m c t (ix2 r n) := by
  have hj := last_point t h4
  refine ptile_apply m c t d r _ (by simp only; omega) _ ?_
  show 6400 + n.val = 512 * (pj t).val + (256 + n.val)
  omega

end

section
variable (c : Dev nD) (t : Fin grid0.N)
  {arg2 : Memref sig .tc .smem S51x62 .f32} (harg2 : arg2.IsWhole)
  {arg3 : Memref sig .tc .vmem S512x7936 .bf16} (harg3 : arg3.IsWhole)
  {arg4 : Memref sig .tc .vmem S512x7936 .fp8e4m3} (harg4 : arg4.IsWhole)
  {arg5 : Memref sig .tc .vmem S512x512 .bf16} (harg5 : arg5.IsWhole)
  {arg6 : Memref sig .tc .vmem S512x512 .bf16} (harg6 : arg6.IsWhole)
  {arg7 : Memref sig .tc .vmem S512x128 .bf16} (harg7 : arg7.IsWhole)
  {arg8 : Memref sig .tc .vmem S512x128 .bf16} (harg8 : arg8.IsWhole)
  {arg9 : Memref sig .tc .vmem S512x48 .bf16} (harg9 : arg9.IsWhole)
  {arg10 : Memref sig .tc .vmem S512x7936 .fp8e4m3} (harg10 : arg10.IsWhole)
  {arg11 : Memref sig .tc .vmem S512x62 .f32} (harg11 : arg11.IsWhole)
  {arg12 : Memref sig .tc .vmem S512x7936 .bf16} (harg12 : arg12.IsWhole)
  {arg13 : Memref sig .tc .vmem S512x7936 .bf16} (harg13 : arg13.IsWhole)

variable (d : S512x7936.Idx → EReal) {f2 : BufTy.Contents (Elt Ideal) arg2.view.ty} {f3 : BufTy.Contents (Elt Ideal) arg3.view.ty}
  {f4 : BufTy.Contents (Elt Ideal) arg4.view.ty} {f12 : BufTy.Contents (Elt Ideal) arg12.view.ty}
  (e2 : arg2.view.read (Elt Ideal) f2 = iblk m c 0 t) (e3 : arg3.view.read (Elt Ideal) f3 = iblk m c 1 t)
  (e4 : arg4.view.read (Elt Ideal) f4 = wtile m c t d) (e12 : arg12.view.read (Elt Ideal) f12 = bdeq (iblk m c 1 t))

/-! ### What each store leaves -/

include e2 e4 in
theorem ldW_at : ldW arg13 (grid0.coords t) f2 f4 = btile (grid0.coords t 1) (iblk m c 0 t) (wtile m c t d) := by
  rw [ldW_eq, e2, e4]

include e2 e3 e4 in
theorem conA_z (hs : BSmall (iblk m c 1 t)) (h1 : k0_cond1 (grid0.coords t) = 1#1) (h2 : k0_cond2 (grid0.coords t) = 1#1) (h3 : ¬ k0_cond3 (grid0.coords t) = 1#1) (h4 : ¬ k0_cond4 (grid0.coords t) = 1#1) (f : BufTy.Contents (Elt Ideal) arg5.view.ty) :
    arg5.view.read (Elt Ideal) (arg5.view.writes (Elt Ideal) f (runA (F := Ideal) c (grid0.coords t) harg2 harg3 harg4 harg5 harg6 harg7 harg8 harg9 harg10 harg11 harg12 harg13 h1 h2 h3 h4 f2 f3 f4 f12).2.1) = out3 m c t := by
  rw [runA_z, View.read_writes_full, ldU_eq, ldW_at m c t d e2 e4]
  funext y
  obtain ⟨r, n, rfl⟩ : ∃ (r : Fin 512) (n : Fin 512), y = ix2 r n := ⟨y 0, y 1, eq_ix2 y⟩
  rw [pay787_apply, show _ = bdeq (iblk m c 1 t) from (deq_read c (grid0.coords t) harg2 harg3 harg4 harg5 harg6 harg7 harg8 harg9 harg10 harg11 harg12 harg13 h1 f3 (by rw [e3]; exact hs) f12).trans (by rw [e3])]
  exact ptile_z m c t d h2 r n

include e2 e4 e12 in
theorem conB_z (h1 : ¬ k0_cond1 (grid0.coords t) = 1#1) (h2 : k0_cond2 (grid0.coords t) = 1#1) (h3 : ¬ k0_cond3 (grid0.coords t) = 1#1) (h4 : ¬ k0_cond4 (grid0.coords t) = 1#1) (f : BufTy.Contents (Elt Ideal) arg5.view.ty) :
    arg5.view.read (Elt Ideal) (arg5.view.writes (Elt Ideal) f (runB (F := Ideal) c (grid0.coords t) harg2 harg3 harg4 harg5 harg6 harg7 harg8 harg9 harg10 harg11 harg12 harg13 h1 h2 h3 h4 f2 f4 f12).2.1) = out3 m c t := by
  rw [runB_z, View.read_writes_full, ldU_eq, ldW_at m c t d e2 e4]
  funext y
  obtain ⟨r, n, rfl⟩ : ∃ (r : Fin 512) (n : Fin 512), y = ix2 r n := ⟨y 0, y 1, eq_ix2 y⟩
  rw [pay787_apply, e12]
  exact ptile_z m c t d h2 r n

include e2 e4 e12 in
theorem conC_x (h1 : ¬ k0_cond1 (grid0.coords t) = 1#1) (h2 : ¬ k0_cond2 (grid0.coords t) = 1#1) (h3 : k0_cond3 (grid0.coords t) = 1#1) (h4 : ¬ k0_cond4 (grid0.coords t) = 1#1) (f : BufTy.Contents (Elt Ideal) arg6.view.ty) :
    arg6.view.read (Elt Ideal) (arg6.view.writes (Elt Ideal) f (runC (F := Ideal) c (grid0.coords t) harg2 harg3 harg4 harg5 harg6 harg7 harg8 harg9 harg10 harg11 harg12 harg13 h1 h2 h3 h4 f2 f4 f12).2.1) = out4 m c t := by
  rw [runC_x, View.read_writes_full, ldU_eq, ldW_at m c t d e2 e4]
  funext y
  obtain ⟨r, n, rfl⟩ : ∃ (r : Fin 512) (n : Fin 512), y = ix2 r n := ⟨y 0, y 1, eq_ix2 y⟩
  rw [pay1_apply, e12]
  exact ptile_x m c t d h3 r n

include e2 e4 e12 in
theorem conD_b (h1 : ¬ k0_cond1 (grid0.coords t) = 1#1) (h2 : ¬ k0_cond2 (grid0.coords t) = 1#1) (h3 : ¬ k0_cond3 (grid0.coords t) = 1#1) (h4 : k0_cond4 (grid0.coords t) = 1#1) (f : BufTy.Contents (Elt Ideal) arg7.view.ty) :
    arg7.view.read (Elt Ideal) (arg7.view.writes (Elt Ideal) f (runD (F := Ideal) c (grid0.coords t) harg2 harg3 harg4 harg5 harg6 harg7 harg8 harg9 harg10 harg11 harg12 harg13 h1 h2 h3 h4 f2 f4 f12).2.1) = out5 m c t := by
  rw [runD_b, View.read_writes_full, ldU_eq, ldW_at m c t d e2 e4]
  funext y
  obtain ⟨r, n, rfl⟩ : ∃ (r : Fin 512) (n : Fin 128), y = ix2 r n := ⟨y 0, y 1, eq_ix2 y⟩
  rw [pay2_apply, e12]
  exact ptile_b m c t d h4 r n

include e2 e4 e12 in
theorem conD_c (h1 : ¬ k0_cond1 (grid0.coords t) = 1#1) (h2 : ¬ k0_cond2 (grid0.coords t) = 1#1) (h3 : ¬ k0_cond3 (grid0.coords t) = 1#1) (h4 : k0_cond4 (grid0.coords t) = 1#1) (f : BufTy.Contents (Elt Ideal) arg8.view.ty) :
    arg8.view.read (Elt Ideal) (arg8.view.writes (Elt Ideal) f (runD (F := Ideal) c (grid0.coords t) harg2 harg3 harg4 harg5 harg6 harg7 harg8 harg9 harg10 harg11 harg12 harg13 h1 h2 h3 h4 f2 f4 f12).2.2.1) = out6 m c t := by
  rw [runD_c, View.read_writes_full, ldU_eq, ldW_at m c t d e2 e4]
  funext y
  obtain ⟨r, n, rfl⟩ : ∃ (r : Fin 512) (n : Fin 128), y = ix2 r n := ⟨y 0, y 1, eq_ix2 y⟩
  rw [pay3_apply, e12]
  exact ptile_c m c t d h4 r n

include e2 e4 e12 in
theorem conD_dt (h1 : ¬ k0_cond1 (grid0.coords t) = 1#1) (h2 : ¬ k0_cond2 (grid0.coords t) = 1#1) (h3 : ¬ k0_cond3 (grid0.coords t) = 1#1) (h4 : k0_cond4 (grid0.coords t) = 1#1) (f : BufTy.Contents (Elt Ideal) arg9.view.ty) :
    arg9.view.read (Elt Ideal) (arg9.view.writes (Elt Ideal) f (runD (F := Ideal) c (grid0.coords t) harg2 harg3 harg4 harg5 harg6 harg7 harg8 harg9 harg10 harg11 harg12 harg13 h1 h2 h3 h4 f2 f4 f12).2.2.2.1) = out7 m c t := by
  rw [runD_dt, View.read_writes_full, ldU_eq, ldW_at m c t d e2 e4]
  funext y
  obtain ⟨r, n, rfl⟩ : ∃ (r : Fin 512) (n : Fin 48), y = ix2 r n := ⟨y 0, y 1, eq_ix2 y⟩
  rw [pay4_apply, e12]
  exact ptile_dt m c t d h4 r n

end

end Cert.KernelIdeal.Hand

end
-- ==== Proof.Ideal.KBody.lean ====
module

public import proofs.«01_k».proof.Proof.Ideal.KContents

@[expose] public section

set_option maxRecDepth 16384
set_option maxHeartbeats 4000000

/-!
The kernel's body at a grid point, course by course, as a statement on its buffers.
-/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen Cert.Spec

local notation "𝕄" => MT nD τ sig Unit (Elt Ideal) ℕ (UR sig nD τ) ℕ

variable (m : (ℓ : Loc nD τ sig) → Buf (Elt Ideal) ℓ)

section
variable (c : Dev nD) (t : Fin grid0.N)
  {arg2 : Memref sig .tc .smem S51x62 .f32} (harg2 : arg2.IsWhole)
  {arg3 : Memref sig .tc .vmem S512x7936 .bf16} (harg3 : arg3.IsWhole)
  {arg4 : Memref sig .tc .vmem S512x7936 .fp8e4m3} (harg4 : arg4.IsWhole)
  {arg5 : Memref sig .tc .vmem S512x512 .bf16} (harg5 : arg5.IsWhole)
  {arg6 : Memref sig .tc .vmem S512x512 .bf16} (harg6 : arg6.IsWhole)
  {arg7 : Memref sig .tc .vmem S512x128 .bf16} (harg7 : arg7.IsWhole)
  {arg8 : Memref sig .tc .vmem S512x128 .bf16} (harg8 : arg8.IsWhole)
  {arg9 : Memref sig .tc .vmem S512x48 .bf16} (harg9 : arg9.IsWhole)
  {arg10 : Memref sig .tc .vmem S512x7936 .fp8e4m3} (harg10 : arg10.IsWhole)
  {arg11 : Memref sig .tc .vmem S512x62 .f32} (harg11 : arg11.IsWhole)
  {arg12 : Memref sig .tc .vmem S512x7936 .bf16} (harg12 : arg12.IsWhole)
  {arg13 : Memref sig .tc .vmem S512x7936 .bf16} (harg13 : arg13.IsWhole)

/-- At the first tile of a row block the row block is quantised, and the tile of `z` stored. -/
theorem tripA (hs : BSmall (iblk m c 1 t)) (h1 : k0_cond1 (grid0.coords t) = 1#1) (h2 : k0_cond2 (grid0.coords t) = 1#1) (h3 : ¬ k0_cond3 (grid0.coords t) = 1#1) (h4 : ¬ k0_cond4 (grid0.coords t) = 1#1) :
    iprop(owns (c : Thread nD τ) arg2 fullShare (iblk m c 0 t) ∗ owns (c : Thread nD τ) arg3 fullShare (iblk m c 1 t) ∗ (∃ d, owns (c : Thread nD τ) arg4 fullShare (wtile m c t d)) ∗ (∃ X, owns (c : Thread nD τ) arg5 fullShare X) ∗ (∃ X, owns (c : Thread nD τ) arg10 fullShare X) ∗ (∃ X, owns (c : Thread nD τ) arg11 fullShare X) ∗ (∃ f, pt c arg12 f) ∗ (∃ f, pt c arg13 f))
      ⊢ wp frame (wpE (defs₀ (F := Ideal)) Variants.none (c : Thread nD τ) none) Set.univ (bodyOn (F := Ideal) (grid0.coords t) harg2 harg3 harg4 harg5 harg6 harg7 harg8 harg9 harg10 harg11 harg12 harg13)
        (fun _ => iprop(owns (c : Thread nD τ) arg2 fullShare (iblk m c 0 t) ∗ owns (c : Thread nD τ) arg3 fullShare (iblk m c 1 t) ∗ (∃ d, owns (c : Thread nD τ) arg4 fullShare (wtile m c t d)) ∗ owns (c : Thread nD τ) arg5 fullShare (out3 m c t) ∗ owns (c : Thread nD τ) arg10 fullShare (out8 m c t) ∗ owns (c : Thread nD τ) arg11 fullShare (out9 m c t) ∗ (∃ f, ⌜arg12.view.read (Elt Ideal) f = bdeq (iblk m c 1 t)⌝ ∗ pt c arg12 f) ∗ (∃ f, pt c arg13 f))) := by
  unfold owns
  iintro ⟨⟨%f2, %e2, H2⟩, ⟨%f3, %e3, H3⟩, ⟨%d, %f4, %e4, H4⟩, ⟨%X5, %f5, %e5, H5⟩, ⟨%X10, %f10, %e10, H10⟩, ⟨%X11, %f11, %e11, H11⟩, ⟨%f12, H12⟩, ⟨%f13, H13⟩⟩
  iapply (wp_wand_r frame (wpE (defs₀ (F := Ideal)) Variants.none (c : Thread nD τ) none) Set.univ)
  isplitl [H2 H3 H4 H5 H10 H11 H12 H13]
  · iapply ((runA (F := Ideal) c (grid0.coords t) harg2 harg3 harg4 harg5 harg6 harg7 harg8 harg9 harg10 harg11 harg12 harg13 h1 h2 h3 h4 f2 f3 f4 f12).2.2 Set.univ f5 f10 f11 f13)
    isplitl [H2]; · iexact H2
    isplitl [H3]; · iexact H3
    isplitl [H4]; · iexact H4
    isplitl [H5]; · iexact H5
    isplitl [H10]; · iexact H10
    isplitl [H11]; · iexact H11
    isplitl [H12]; · iexact H12
    iexact H13
  iintro %_ ⟨H2, H3, H4, H5, H10, H11, H12, H13⟩
  isplitl [H2]
  · iexists _; isplitr; · ipureintro; exact e2
    iexact H2
  isplitl [H3]
  · iexists _; isplitr; · ipureintro; exact e3
    iexact H3
  isplitl [H4]
  · iexists d; iexists _; isplitr; · ipureintro; exact e4
    iexact H4
  isplitl [H5]
  · iexists _; isplitr; · ipureintro; exact conA_z m c t harg2 harg3 harg4 harg5 harg6 harg7 harg8 harg9 harg10 harg11 harg12 harg13 d (f12 := f12) e2 e3 e4 hs h1 h2 h3 h4 f5
    iexact H5
  isplitl [H10]
  · iexists _; isplitr; · ipureintro; exact (codes_read c (grid0.coords t) harg2 harg3 harg4 harg5 harg6 harg7 harg8 harg9 harg10 harg11 harg12 harg13 h1 f3 (by rw [e3]; exact hs) f10).trans ((congrArg bcode e3).trans (bcode_iblk m c t))
    iexact H10
  isplitl [H11]
  · iexists _; isplitr; · ipureintro; exact (scales_read c (grid0.coords t) harg2 harg3 harg4 harg5 harg6 harg7 harg8 harg9 harg10 harg11 harg12 harg13 h1 f3 (by rw [e3]; exact hs) f11).trans ((congrArg bscl e3).trans (bscl_iblk m c t))
    iexact H11
  isplitl [H12]
  · iexists _; isplitr; · ipureintro; exact (deq_read c (grid0.coords t) harg2 harg3 harg4 harg5 harg6 harg7 harg8 harg9 harg10 harg11 harg12 harg13 h1 f3 (by rw [e3]; exact hs) f12).trans (by rw [e3])
    iexact H12
  iexists _; iexact H13

/-- At a later tile of `z` the tile is stored. -/
theorem tripB (h1 : ¬ k0_cond1 (grid0.coords t) = 1#1) (h2 : k0_cond2 (grid0.coords t) = 1#1) (h3 : ¬ k0_cond3 (grid0.coords t) = 1#1) (h4 : ¬ k0_cond4 (grid0.coords t) = 1#1) :
    iprop(owns (c : Thread nD τ) arg2 fullShare (iblk m c 0 t) ∗ (∃ d, owns (c : Thread nD τ) arg4 fullShare (wtile m c t d)) ∗ (∃ X, owns (c : Thread nD τ) arg5 fullShare X) ∗ (∃ f, ⌜arg12.view.read (Elt Ideal) f = bdeq (iblk m c 1 t)⌝ ∗ pt c arg12 f) ∗ (∃ f, pt c arg13 f))
      ⊢ wp frame (wpE (defs₀ (F := Ideal)) Variants.none (c : Thread nD τ) none) Set.univ (bodyOn (F := Ideal) (grid0.coords t) harg2 harg3 harg4 harg5 harg6 harg7 harg8 harg9 harg10 harg11 harg12 harg13)
        (fun _ => iprop(owns (c : Thread nD τ) arg2 fullShare (iblk m c 0 t) ∗ (∃ d, owns (c : Thread nD τ) arg4 fullShare (wtile m c t d)) ∗ owns (c : Thread nD τ) arg5 fullShare (out3 m c t) ∗ (∃ f, ⌜arg12.view.read (Elt Ideal) f = bdeq (iblk m c 1 t)⌝ ∗ pt c arg12 f) ∗ (∃ f, pt c arg13 f))) := by
  unfold owns
  iintro ⟨⟨%f2, %e2, H2⟩, ⟨%d, %f4, %e4, H4⟩, ⟨%X5, %f5, %e5, H5⟩, ⟨%f12, %e12, H12⟩, ⟨%f13, H13⟩⟩
  iapply (wp_wand_r frame (wpE (defs₀ (F := Ideal)) Variants.none (c : Thread nD τ) none) Set.univ)
  isplitl [H2 H4 H5 H12 H13]
  · iapply ((runB (F := Ideal) c (grid0.coords t) harg2 harg3 harg4 harg5 harg6 harg7 harg8 harg9 harg10 harg11 harg12 harg13 h1 h2 h3 h4 f2 f4 f12).2.2 Set.univ f5 f13)
    isplitl [H2]; · iexact H2
    isplitl [H4]; · iexact H4
    isplitl [H5]; · iexact H5
    isplitl [H12]; · iexact H12
    iexact H13
  iintro %_ ⟨H2, H4, H5, H12, H13⟩
  isplitl [H2]
  · iexists _; isplitr; · ipureintro; exact e2
    iexact H2
  isplitl [H4]
  · iexists d; iexists _; isplitr; · ipureintro; exact e4
    iexact H4
  isplitl [H5]
  · iexists _; isplitr; · ipureintro; exact conB_z m c t harg2 harg3 harg4 harg5 harg6 harg7 harg8 harg9 harg10 harg11 harg12 harg13 d e2 e4 e12 h1 h2 h3 h4 f5
    iexact H5
  isplitl [H12]
  · iexists _; isplitr; · ipureintro; exact e12
    iexact H12
  iexists _; iexact H13

/-- At a tile of `x` the tile is stored. -/
theorem tripC (h1 : ¬ k0_cond1 (grid0.coords t) = 1#1) (h2 : ¬ k0_cond2 (grid0.coords t) = 1#1) (h3 : k0_cond3 (grid0.coords t) = 1#1) (h4 : ¬ k0_cond4 (grid0.coords t) = 1#1) :
    iprop(owns (c : Thread nD τ) arg2 fullShare (iblk m c 0 t) ∗ (∃ d, owns (c : Thread nD τ) arg4 fullShare (wtile m c t d)) ∗ (∃ X, owns (c : Thread nD τ) arg6 fullShare X) ∗ (∃ f, ⌜arg12.view.read (Elt Ideal) f = bdeq (iblk m c 1 t)⌝ ∗ pt c arg12 f) ∗ (∃ f, pt c arg13 f))
      ⊢ wp frame (wpE (defs₀ (F := Ideal)) Variants.none (c : Thread nD τ) none) Set.univ (bodyOn (F := Ideal) (grid0.coords t) harg2 harg3 harg4 harg5 harg6 harg7 harg8 harg9 harg10 harg11 harg12 harg13)
        (fun _ => iprop(owns (c : Thread nD τ) arg2 fullShare (iblk m c 0 t) ∗ (∃ d, owns (c : Thread nD τ) arg4 fullShare (wtile m c t d)) ∗ owns (c : Thread nD τ) arg6 fullShare (out4 m c t) ∗ (∃ f, ⌜arg12.view.read (Elt Ideal) f = bdeq (iblk m c 1 t)⌝ ∗ pt c arg12 f) ∗ (∃ f, pt c arg13 f))) := by
  unfold owns
  iintro ⟨⟨%f2, %e2, H2⟩, ⟨%d, %f4, %e4, H4⟩, ⟨%X6, %f6, %e6, H6⟩, ⟨%f12, %e12, H12⟩, ⟨%f13, H13⟩⟩
  iapply (wp_wand_r frame (wpE (defs₀ (F := Ideal)) Variants.none (c : Thread nD τ) none) Set.univ)
  isplitl [H2 H4 H6 H12 H13]
  · iapply ((runC (F := Ideal) c (grid0.coords t) harg2 harg3 harg4 harg5 harg6 harg7 harg8 harg9 harg10 harg11 harg12 harg13 h1 h2 h3 h4 f2 f4 f12).2.2 Set.univ f6 f13)
    isplitl [H2]; · iexact H2
    isplitl [H4]; · iexact H4
    isplitl [H6]; · iexact H6
    isplitl [H12]; · iexact H12
    iexact H13
  iintro %_ ⟨H2, H4, H6, H12, H13⟩
  isplitl [H2]
  · iexists _; isplitr; · ipureintro; exact e2
    iexact H2
  isplitl [H4]
  · iexists d; iexists _; isplitr; · ipureintro; exact e4
    iexact H4
  isplitl [H6]
  · iexists _; isplitr; · ipureintro; exact conC_x m c t harg2 harg3 harg4 harg5 harg6 harg7 harg8 harg9 harg10 harg11 harg12 harg13 d e2 e4 e12 h1 h2 h3 h4 f6
    iexact H6
  isplitl [H12]
  · iexists _; isplitr; · ipureintro; exact e12
    iexact H12
  iexists _; iexact H13

/-- At the last tile the row blocks of `B`, `C` and `dt` are stored. -/
theorem tripD (h1 : ¬ k0_cond1 (grid0.coords t) = 1#1) (h2 : ¬ k0_cond2 (grid0.coords t) = 1#1) (h3 : ¬ k0_cond3 (grid0.coords t) = 1#1) (h4 : k0_cond4 (grid0.coords t) = 1#1) :
    iprop(owns (c : Thread nD τ) arg2 fullShare (iblk m c 0 t) ∗ (∃ d, owns (c : Thread nD τ) arg4 fullShare (wtile m c t d)) ∗ (∃ X, owns (c : Thread nD τ) arg7 fullShare X) ∗ (∃ X, owns (c : Thread nD τ) arg8 fullShare X) ∗ (∃ X, owns (c : Thread nD τ) arg9 fullShare X) ∗ (∃ f, ⌜arg12.view.read (Elt Ideal) f = bdeq (iblk m c 1 t)⌝ ∗ pt c arg12 f) ∗ (∃ f, pt c arg13 f))
      ⊢ wp frame (wpE (defs₀ (F := Ideal)) Variants.none (c : Thread nD τ) none) Set.univ (bodyOn (F := Ideal) (grid0.coords t) harg2 harg3 harg4 harg5 harg6 harg7 harg8 harg9 harg10 harg11 harg12 harg13)
        (fun _ => iprop(owns (c : Thread nD τ) arg2 fullShare (iblk m c 0 t) ∗ (∃ d, owns (c : Thread nD τ) arg4 fullShare (wtile m c t d)) ∗ owns (c : Thread nD τ) arg7 fullShare (out5 m c t) ∗ owns (c : Thread nD τ) arg8 fullShare (out6 m c t) ∗ owns (c : Thread nD τ) arg9 fullShare (out7 m c t) ∗ (∃ f, ⌜arg12.view.read (Elt Ideal) f = bdeq (iblk m c 1 t)⌝ ∗ pt c arg12 f) ∗ (∃ f, pt c arg13 f))) := by
  unfold owns
  iintro ⟨⟨%f2, %e2, H2⟩, ⟨%d, %f4, %e4, H4⟩, ⟨%X7, %f7, %e7, H7⟩, ⟨%X8, %f8, %e8, H8⟩, ⟨%X9, %f9, %e9, H9⟩, ⟨%f12, %e12, H12⟩, ⟨%f13, H13⟩⟩
  iapply (wp_wand_r frame (wpE (defs₀ (F := Ideal)) Variants.none (c : Thread nD τ) none) Set.univ)
  isplitl [H2 H4 H7 H8 H9 H12 H13]
  · iapply ((runD (F := Ideal) c (grid0.coords t) harg2 harg3 harg4 harg5 harg6 harg7 harg8 harg9 harg10 harg11 harg12 harg13 h1 h2 h3 h4 f2 f4 f12).2.2.2.2 Set.univ f7 f8 f9 f13)
    isplitl [H2]; · iexact H2
    isplitl [H4]; · iexact H4
    isplitl [H7]; · iexact H7
    isplitl [H8]; · iexact H8
    isplitl [H9]; · iexact H9
    isplitl [H12]; · iexact H12
    iexact H13
  iintro %_ ⟨H2, H4, H7, H8, H9, H12, H13⟩
  isplitl [H2]
  · iexists _; isplitr; · ipureintro; exact e2
    iexact H2
  isplitl [H4]
  · iexists d; iexists _; isplitr; · ipureintro; exact e4
    iexact H4
  isplitl [H7]
  · iexists _; isplitr; · ipureintro; exact conD_b m c t harg2 harg3 harg4 harg5 harg6 harg7 harg8 harg9 harg10 harg11 harg12 harg13 d e2 e4 e12 h1 h2 h3 h4 f7
    iexact H7
  isplitl [H8]
  · iexists _; isplitr; · ipureintro; exact conD_c m c t harg2 harg3 harg4 harg5 harg6 harg7 harg8 harg9 harg10 harg11 harg12 harg13 d e2 e4 e12 h1 h2 h3 h4 f8
    iexact H8
  isplitl [H9]
  · iexists _; isplitr; · ipureintro; exact conD_dt m c t harg2 harg3 harg4 harg5 harg6 harg7 harg8 harg9 harg10 harg11 harg12 harg13 d e2 e4 e12 h1 h2 h3 h4 f9
    iexact H9
  isplitl [H12]
  · iexists _; isplitr; · ipureintro; exact e12
    iexact H12
  iexists _; iexact H13

end

end Cert.KernelIdeal.Hand

end
-- ==== Proof.Ideal.KRun.lean ====
module

public import proofs.«01_k».proof.Proof.Ideal.KBody
public import proofs.«01_k».proof.Proof.Ideal.Frame
public import Idealize.ShloMosaic.Lib.Pipeline.TableIdle

@[expose] public section

set_option maxRecDepth 16384
set_option maxHeartbeats 4000000

/-!
The kernel's run over the extended reals: what its result arrays end holding.
-/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen Cert.Spec

local notation "𝕄" => MT nD τ sig Unit (Elt Ideal) ℕ (UR sig nD τ) ℕ

variable (m : (ℓ : Loc nD τ sig) → Buf (Elt Ideal) ℓ) (ρ : Dev nD → PrngReg)

/-- The row block's dequantised copy is held after every point but a row block's last. -/
def held (c : Dev nD) (n : ℕ) (f : BufTy.Contents (Elt Ideal) (Memref.whole cc0_scratch0).view.ty) : Prop :=
  n % 13 ≠ 0 → ∀ t : Fin grid0.N, t.val / 13 = n / 13 → (Memref.whole cc0_scratch0).view.read (Elt Ideal) f = bdeq (iblk m c 1 t)

/-- The scratch buffers and the register between the points. -/
def kΦ (c : Dev nD) (n : ℕ) : sProp 𝕄 :=
  iprop(((∃ f, ⌜held m c n f⌝ ∗ pt c (Memref.whole cc0_scratch0) f) ∗ (∃ f, pt c (Memref.whole cc0_scratch1) f)) ∗ ∃ r, prngReg c r)

/-- The pipeline's proof data: the inputs' buffers hold their blocks, the results' the blocks of the arrays specified. -/
def kdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wtile m c t (fun _ => 0)
    | ⟨3, _⟩ => out3 m c t
    | ⟨4, _⟩ => out4 m c t
    | ⟨5, _⟩ => out5 m c t
    | ⟨6, _⟩ => out6 m c t
    | ⟨7, _⟩ => out7 m c t
    | ⟨8, _⟩ => out8 m c t
    | ⟨9, _⟩ => out9 m c t
  Φ t := kΦ m c t.val
  q _ := fullShare
  owed _ := 0

section
variable (c : Dev nD)

theorem kA_eq (w : Fin cfg0.W) : (kdats m 0 c).A w = V m c (Pipeline.arrRef spec0 w) := by dsimp only [kdats]
theorem kafter0 (t : Fin cfg0.N) : (kdats m 0 c).after 0 t = iblk m c 0 t := by dsimp only [kdats]
theorem kafter1 (t : Fin cfg0.N) : (kdats m 0 c).after 1 t = iblk m c 1 t := by dsimp only [kdats]
theorem kafter2 (t : Fin cfg0.N) : (kdats m 0 c).after 2 t = wtile m c t (fun _ => 0) := by dsimp only [kdats]
theorem kafter3 (t : Fin cfg0.N) : (kdats m 0 c).after 3 t = out3 m c t := by dsimp only [kdats]
theorem kafter4 (t : Fin cfg0.N) : (kdats m 0 c).after 4 t = out4 m c t := by dsimp only [kdats]
theorem kafter5 (t : Fin cfg0.N) : (kdats m 0 c).after 5 t = out5 m c t := by dsimp only [kdats]
theorem kafter6 (t : Fin cfg0.N) : (kdats m 0 c).after 6 t = out6 m c t := by dsimp only [kdats]
theorem kafter7 (t : Fin cfg0.N) : (kdats m 0 c).after 7 t = out7 m c t := by dsimp only [kdats]
theorem kafter8 (t : Fin cfg0.N) : (kdats m 0 c).after 8 t = out8 m c t := by dsimp only [kdats]
theorem kafter9 (t : Fin cfg0.N) : (kdats m 0 c).after 9 t = out9 m c t := by dsimp only [kdats]
theorem kbefore0 (t : Fin cfg0.N) (d) : (kdats m 0 c).before 0 t d = iblk m c 0 t :=
  before0_0_of m (kdats m 0 c) (kA_eq m c 0) (kafter0 m c) t d
theorem kbefore1 (t : Fin cfg0.N) (d) : (kdats m 0 c).before 1 t d = iblk m c 1 t :=
  before0_1_of m (kdats m 0 c) (kA_eq m c 1) (kafter1 m c) t d
theorem kbefore2 (t : Fin cfg0.N) (d) : (kdats m 0 c).before 2 t d = wtile m c t d :=
  (Pipeline.Dat.before_fetched _ 2 t (fetch0_2 t) d).trans (by unfold Dat.fetched Dat.blockOf wtile iblk; rw [kA_eq]; try rfl)

/-! ### The schedule -/

theorem idle3 (t : Fin cfg0.N) : cfg0.idle 3 (cfg0.grid.coords t) = !(k0_cond2 (grid0.coords t) == 1#1) := rfl
theorem idle4 (t : Fin cfg0.N) : cfg0.idle 4 (cfg0.grid.coords t) = !(k0_cond3 (grid0.coords t) == 1#1) := rfl
theorem idle5 (t : Fin cfg0.N) : cfg0.idle 5 (cfg0.grid.coords t) = !(k0_cond4 (grid0.coords t) == 1#1) := rfl
theorem idle6 (t : Fin cfg0.N) : cfg0.idle 6 (cfg0.grid.coords t) = !(k0_cond4 (grid0.coords t) == 1#1) := rfl
theorem idle7 (t : Fin cfg0.N) : cfg0.idle 7 (cfg0.grid.coords t) = !(k0_cond4 (grid0.coords t) == 1#1) := rfl
theorem idle8 (t : Fin cfg0.N) : cfg0.idle 8 (cfg0.grid.coords t) = !(k0_cond1 (grid0.coords t) == 1#1) := rfl
theorem idle9 (t : Fin cfg0.N) : cfg0.idle 9 (cfg0.grid.coords t) = !(k0_cond1 (grid0.coords t) == 1#1) := rfl

theorem cond1_iff : ∀ t : Fin grid0.N, k0_cond1 (grid0.coords t) = 1#1 ↔ t.val % 13 = 0 := by decide +kernel
theorem cond2_iff : ∀ t : Fin grid0.N, k0_cond2 (grid0.coords t) = 1#1 ↔ t.val % 13 < 6 := by decide +kernel
theorem cond3_iff : ∀ t : Fin grid0.N, k0_cond3 (grid0.coords t) = 1#1 ↔ 6 ≤ t.val % 13 ∧ t.val % 13 < 12 := by decide +kernel
theorem cond4_iff : ∀ t : Fin grid0.N, k0_cond4 (grid0.coords t) = 1#1 ↔ t.val % 13 = 12 := by decide +kernel

theorem flush3 : ∀ t : Fin grid0.N, win0_3.flush t = decide (t.val % 13 < 5 ∨ t.val % 13 = 12) := by decide +kernel
theorem flush4 : ∀ t : Fin grid0.N, win0_4.flush t = decide (6 ≤ t.val % 13 ∧ t.val % 13 < 11 ∨ t.val % 13 = 12) := by decide +kernel
theorem flush8 : ∀ t : Fin grid0.N, win0_8.flush t = decide (t.val % 13 = 12) := by decide +kernel
theorem flush9 : ∀ t : Fin grid0.N, win0_9.flush t = decide (t.val % 13 = 12) := by decide +kernel

/-! ### What a result's buffer holds where it is written back without being stored -/

theorem before3_last (t : Fin cfg0.N) (ht : t.val % 13 = 12) (d) : (kdats m 0 c).before 3 t d = out3 m c t := by
  have hN : t.val < 104 := t.isLt
  rw [(kdats m 0 c).before_idle_run 3 (fun _ => rfl) d 6 t (by omega) (fun j h1 h2 => ⟨by
      rw [idle3, Bool.not_eq_true', beq_eq_false_iff_ne]
      exact fun h => absurd ((cond2_iff j).mp h) (by omega), by
      show win0_3.flush j = false
      rw [flush3]; exact decide_eq_false (by omega)⟩)]
  rw [Pipeline.Dat.before_of_pos _ _ _ (by simp only; omega) rfl]
  rw [if_neg (by
      show ¬ win0_3.flush ⟨t.val - 6 - 1, _⟩ = true
      rw [flush3]; simp only [decide_eq_true_eq]; omega)]
  unfold Dat.left
  rw [idle3, beq_iff_eq.mpr ((cond2_iff _).mpr (by simp only; omega))]
  refine Eq.trans (b := out3 m c ⟨t.val - 6 - 1, by show _ < 104; omega⟩) ?_ ?_
  · unfold Dat.kept; rw [kafter3]; exact Pipeline.Window.fill_cut _ _ _
  · unfold out3
    have e1 : pi ⟨t.val - 6 - 1, by show _ < 104; omega⟩ = pi t := Fin.ext (by simp only [pi]; omega)
    have e2 : min (pj ⟨t.val - 6 - 1, by show _ < 104; omega⟩).val 5 = min (pj t).val 5 := by simp only [pj]; omega
    simp only [e1, e2]

theorem before4_last (t : Fin cfg0.N) (ht : t.val % 13 = 12) (d) : (kdats m 0 c).before 4 t d = out4 m c t := by
  have hN : t.val < 104 := t.isLt
  rw [(kdats m 0 c).before_idle_run 4 (fun _ => rfl) d 0 t (by omega) (fun j h1 h2 => ⟨by
      rw [idle4, Bool.not_eq_true', beq_eq_false_iff_ne]
      exact fun h => absurd ((cond3_iff j).mp h) (by omega), by
      show win0_4.flush j = false
      rw [flush4]; exact decide_eq_false (by omega)⟩)]
  rw [Pipeline.Dat.before_of_pos _ _ _ (by simp only; omega) rfl]
  rw [if_neg (by
      show ¬ win0_4.flush ⟨t.val - 0 - 1, _⟩ = true
      rw [flush4]; simp only [decide_eq_true_eq]; omega)]
  unfold Dat.left
  rw [idle4, beq_iff_eq.mpr ((cond3_iff _).mpr (by simp only; omega))]
  refine Eq.trans (b := out4 m c ⟨t.val - 0 - 1, by show _ < 104; omega⟩) ?_ ?_
  · unfold Dat.kept; rw [kafter4]; exact Pipeline.Window.fill_cut _ _ _
  · unfold out4
    have e1 : pi ⟨t.val - 0 - 1, by show _ < 104; omega⟩ = pi t := Fin.ext (by simp only [pi]; omega)
    have e2 : min ((pj ⟨t.val - 0 - 1, by show _ < 104; omega⟩).val - 6) 5 = min ((pj t).val - 6) 5 := by simp only [pj]; omega
    simp only [e1, e2]

theorem before8_last (t : Fin cfg0.N) (ht : t.val % 13 = 12) (d) : (kdats m 0 c).before 8 t d = out8 m c t := by
  have hN : t.val < 104 := t.isLt
  rw [(kdats m 0 c).before_idle_run 8 (fun _ => rfl) d 11 t (by omega) (fun j h1 h2 => ⟨by
      rw [idle8, Bool.not_eq_true', beq_eq_false_iff_ne]
      exact fun h => absurd ((cond1_iff j).mp h) (by omega), by
      show win0_8.flush j = false
      rw [flush8]; exact decide_eq_false (by omega)⟩)]
  rw [Pipeline.Dat.before_of_pos _ _ _ (by simp only; omega) rfl]
  rw [if_neg (by
      show ¬ win0_8.flush ⟨t.val - 11 - 1, _⟩ = true
      rw [flush8]; simp only [decide_eq_true_eq]; omega)]
  unfold Dat.left
  rw [idle8, beq_iff_eq.mpr ((cond1_iff _).mpr (by simp only; omega))]
  refine Eq.trans (b := out8 m c ⟨t.val - 11 - 1, by show _ < 104; omega⟩) ?_ ?_
  · unfold Dat.kept; rw [kafter8]; exact Pipeline.Window.fill_cut _ _ _
  · unfold out8
    have e1 : pi ⟨t.val - 11 - 1, by show _ < 104; omega⟩ = pi t := Fin.ext (by simp only [pi]; omega)
    simp only [e1]

theorem before9_last (t : Fin cfg0.N) (ht : t.val % 13 = 12) (d) : (kdats m 0 c).before 9 t d = out9 m c t := by
  have hN : t.val < 104 := t.isLt
  rw [(kdats m 0 c).before_idle_run 9 (fun _ => rfl) d 11 t (by omega) (fun j h1 h2 => ⟨by
      rw [idle9, Bool.not_eq_true', beq_eq_false_iff_ne]
      exact fun h => absurd ((cond1_iff j).mp h) (by omega), by
      show win0_9.flush j = false
      rw [flush9]; exact decide_eq_false (by omega)⟩)]
  rw [Pipeline.Dat.before_of_pos _ _ _ (by simp only; omega) rfl]
  rw [if_neg (by
      show ¬ win0_9.flush ⟨t.val - 11 - 1, _⟩ = true
      rw [flush9]; simp only [decide_eq_true_eq]; omega)]
  unfold Dat.left
  rw [idle9, beq_iff_eq.mpr ((cond1_iff _).mpr (by simp only; omega))]
  refine Eq.trans (b := out9 m c ⟨t.val - 11 - 1, by show _ < 104; omega⟩) ?_ ?_
  · unfold Dat.kept; rw [kafter9]; exact Pipeline.Window.fill_cut _ _ _
  · unfold out9
    have e1 : pi ⟨t.val - 11 - 1, by show _ < 104; omega⟩ = pi t := Fin.ext (by simp only [pi]; omega)
    simp only [e1]

theorem held_at (t : Fin cfg0.N) (h0 : t.val % 13 ≠ 0) {f} (h : held m c t.val f) :
    (Memref.whole cc0_scratch0).view.read (Elt Ideal) f = bdeq (iblk m c 1 t) := h h0 t rfl

theorem held_succ (t : Fin cfg0.N) {f} (h : (Memref.whole cc0_scratch0).view.read (Elt Ideal) f = bdeq (iblk m c 1 t)) :
    held m c (t.val + 1) f := fun h0 t' ht' =>
  h.trans (congrArg bdeq (iblk1_congr m c t t' (Fin.ext (by simp only [pi]; omega))))

/-! ### The body's four courses -/

/-- A row block's first point: the codes, the scales and a tile of `z` are stored. -/
theorem soundA (t : Fin cfg0.N) (hs : BSmall (iblk m c 1 t)) (h1 : k0_cond1 (grid0.coords t) = 1#1) (h2 : k0_cond2 (grid0.coords t) = 1#1) (h3 : ¬ k0_cond3 (grid0.coords t) = 1#1) (h4 : ¬ k0_cond4 (grid0.coords t) = 1#1) (P4 P5 P6 P7 : sProp 𝕄) :
    iprop((kdats m 0 c).Φ t.castSucc
      ∗ (kdats m 0 c).owesAt () t.castSucc
      ∗ (∃ d, owns (c : Thread nD τ) (st0_0 t) fullShare ((kdats m 0 c).before 0 t d))
      ∗ (∃ d, owns (c : Thread nD τ) (st0_1 t) fullShare ((kdats m 0 c).before 1 t d))
      ∗ (∃ d, owns (c : Thread nD τ) (st0_2 t) fullShare ((kdats m 0 c).before 2 t d))
      ∗ (∃ d, owns (c : Thread nD τ) (st0_3 t) fullShare ((kdats m 0 c).before 3 t d))
      ∗ P4
      ∗ P5
      ∗ P6
      ∗ P7
      ∗ (∃ d, owns (c : Thread nD τ) (st0_8 t) fullShare ((kdats m 0 c).before 8 t d))
      ∗ (∃ d, owns (c : Thread nD τ) (st0_9 t) fullShare ((kdats m 0 c).before 9 t d)))
    ⊢ wp Idealize.ShloMosaic.frame (wpE (defs₀ (F := Ideal)) Variants.none c none) Set.univ (bodyAt0 t) (fun _ =>
    iprop((kdats m 0 c).Φ t.succ
      ∗ (kdats m 0 c).owesAt () t.succ
      ∗ owns (c : Thread nD τ) (st0_0 t) fullShare ((kdats m 0 c).after 0 t)
      ∗ owns (c : Thread nD τ) (st0_1 t) fullShare ((kdats m 0 c).after 1 t)
      ∗ (∃ d, owns (c : Thread nD τ) (st0_2 t) fullShare ((cfg0.win 2).fill (cfg0.grid.coords t) d ((cfg0.win 2).cut (cfg0.grid.coords t) ((kdats m 0 c).after 2 t))))
      ∗ owns (c : Thread nD τ) (st0_3 t) fullShare ((kdats m 0 c).after 3 t)
      ∗ P4
      ∗ P5
      ∗ P6
      ∗ P7
      ∗ owns (c : Thread nD τ) (st0_8 t) fullShare ((kdats m 0 c).after 8 t)
      ∗ owns (c : Thread nD τ) (st0_9 t) fullShare ((kdats m 0 c).after 9 t))) := by
  have ec : (cfg0.win 2).cut (cfg0.grid.coords t) (wtile m c t (fun _ => 0)) = iblk m c 2 t := Pipeline.Window.cut_fill _ _ _ _
  simp only [kbefore0, kbefore1, kbefore2]
  rw [show (kdats m 0 c).Φ t.succ = kΦ m c (t.val + 1) from rfl, show (kdats m 0 c).Φ t.castSucc = kΦ m c t.val from rfl,
    show (kdats m 0 c).owesAt () t.succ = (kdats m 0 c).owesAt () t.castSucc from rfl, kafter0, kafter1, kafter2, kafter3, kafter8, kafter9, ec]
  unfold kΦ bodyAt0
  iintro ⟨⟨⟨⟨%f, %e, S0⟩, S1⟩, Hr⟩, Ho, ⟨%d0, H0⟩, ⟨%d1, H1⟩, H2, ⟨%d3, H3⟩, P4, P5, P6, P7, ⟨%d8, H8⟩, ⟨%d9, H9⟩⟩
  iapply (wp_wand_r Idealize.ShloMosaic.frame (wpE (defs₀ (F := Ideal)) Variants.none (c : Thread nD τ) none) Set.univ)
  isplitl [H0 H1 H2 H3 H8 H9 S0 S1]
  · iapply (tripA m c t _ _ _ _ _ _ _ _ _ _ _ _ hs h1 h2 h3 h4)
    isplitl [H0]; · iexact H0
    isplitl [H1]; · iexact H1
    isplitl [H2]; · iexact H2
    isplitl [H3]; · iexists _; iexact H3
    isplitl [H8]; · iexists _; iexact H8
    isplitl [H9]; · iexists _; iexact H9
    isplitl [S0]; · iexists _; iexact S0
    iexact S1
  iintro %_ ⟨H0, H1, H2, H3, H8, H9, ⟨%f, %e, S0⟩, S1⟩
  isplitl [S0 S1 Hr]
  · isplitl [S0 S1]
    · isplitl [S0]
      · iexists _; isplitr [S0]
        · ipureintro; exact held_succ m c t e
        · iexact S0
      iexact S1
    iexact Hr
  isplitl [Ho]; · iexact Ho
  isplitl [H0]; · iexact H0
  isplitl [H1]; · iexact H1
  isplitl [H2]; · iexact H2
  isplitl [H3]; · iexact H3
  isplitl [P4]; · iexact P4
  isplitl [P5]; · iexact P5
  isplitl [P6]; · iexact P6
  isplitl [P7]; · iexact P7
  isplitl [H8]; · iexact H8
  iexact H9

/-- A point that stores a tile of `z`. -/
theorem soundB (t : Fin cfg0.N) (h1 : ¬ k0_cond1 (grid0.coords t) = 1#1) (h2 : k0_cond2 (grid0.coords t) = 1#1) (h3 : ¬ k0_cond3 (grid0.coords t) = 1#1) (h4 : ¬ k0_cond4 (grid0.coords t) = 1#1) (P4 P5 P6 P7 P8 P9 : sProp 𝕄) :
    iprop((kdats m 0 c).Φ t.castSucc
      ∗ (kdats m 0 c).owesAt () t.castSucc
      ∗ (∃ d, owns (c : Thread nD τ) (st0_0 t) fullShare ((kdats m 0 c).before 0 t d))
      ∗ (∃ d, owns (c : Thread nD τ) (st0_1 t) fullShare ((kdats m 0 c).before 1 t d))
      ∗ (∃ d, owns (c : Thread nD τ) (st0_2 t) fullShare ((kdats m 0 c).before 2 t d))
      ∗ (∃ d, owns (c : Thread nD τ) (st0_3 t) fullShare ((kdats m 0 c).before 3 t d))
      ∗ P4
      ∗ P5
      ∗ P6
      ∗ P7
      ∗ P8
      ∗ P9)
    ⊢ wp Idealize.ShloMosaic.frame (wpE (defs₀ (F := Ideal)) Variants.none c none) Set.univ (bodyAt0 t) (fun _ =>
    iprop((kdats m 0 c).Φ t.succ
      ∗ (kdats m 0 c).owesAt () t.succ
      ∗ owns (c : Thread nD τ) (st0_0 t) fullShare ((kdats m 0 c).after 0 t)
      ∗ owns (c : Thread nD τ) (st0_1 t) fullShare ((kdats m 0 c).after 1 t)
      ∗ (∃ d, owns (c : Thread nD τ) (st0_2 t) fullShare ((cfg0.win 2).fill (cfg0.grid.coords t) d ((cfg0.win 2).cut (cfg0.grid.coords t) ((kdats m 0 c).after 2 t))))
      ∗ owns (c : Thread nD τ) (st0_3 t) fullShare ((kdats m 0 c).after 3 t)
      ∗ P4
      ∗ P5
      ∗ P6
      ∗ P7
      ∗ P8
      ∗ P9)) := by
  have h0 : t.val % 13 ≠ 0 := fun h => h1 ((cond1_iff t).mpr h)
  have ec : (cfg0.win 2).cut (cfg0.grid.coords t) (wtile m c t (fun _ => 0)) = iblk m c 2 t := Pipeline.Window.cut_fill _ _ _ _
  simp only [kbefore0, kbefore1, kbefore2]
  rw [show (kdats m 0 c).Φ t.succ = kΦ m c (t.val + 1) from rfl, show (kdats m 0 c).Φ t.castSucc = kΦ m c t.val from rfl,
    show (kdats m 0 c).owesAt () t.succ = (kdats m 0 c).owesAt () t.castSucc from rfl, kafter0, kafter1, kafter2, kafter3, ec]
  unfold kΦ bodyAt0
  iintro ⟨⟨⟨⟨%f, %e, S0⟩, S1⟩, Hr⟩, Ho, ⟨%d0, H0⟩, ⟨%d1, H1⟩, H2, ⟨%d3, H3⟩, P4, P5, P6, P7, P8, P9⟩
  iapply (wp_wand_r Idealize.ShloMosaic.frame (wpE (defs₀ (F := Ideal)) Variants.none (c : Thread nD τ) none) Set.univ)
  isplitl [H0 H2 H3 S0 S1]
  · iapply (tripB m c t _ _ _ _ _ _ _ _ _ _ _ _ h1 h2 h3 h4)
    isplitl [H0]; · iexact H0
    isplitl [H2]; · iexact H2
    isplitl [H3]; · iexists _; iexact H3
    isplitl [S0]
    · iexists _; isplitr [S0]
      · ipureintro; exact held_at m c t h0 e
      · iexact S0
    iexact S1
  iintro %_ ⟨H0, H2, H3, ⟨%f, %e, S0⟩, S1⟩
  isplitl [S0 S1 Hr]
  · isplitl [S0 S1]
    · isplitl [S0]
      · iexists _; isplitr [S0]
        · ipureintro; exact held_succ m c t e
        · iexact S0
      iexact S1
    iexact Hr
  isplitl [Ho]; · iexact Ho
  isplitl [H0]; · iexact H0
  isplitl [H1]; · iexact H1
  isplitl [H2]; · iexact H2
  isplitl [H3]; · iexact H3
  isplitl [P4]; · iexact P4
  isplitl [P5]; · iexact P5
  isplitl [P6]; · iexact P6
  isplitl [P7]; · iexact P7
  isplitl [P8]; · iexact P8
  iexact P9

/-- A point that stores a tile of `x`. -/
theorem soundC (t : Fin cfg0.N) (h1 : ¬ k0_cond1 (grid0.coords t) = 1#1) (h2 : ¬ k0_cond2 (grid0.coords t) = 1#1) (h3 : k0_cond3 (grid0.coords t) = 1#1) (h4 : ¬ k0_cond4 (grid0.coords t) = 1#1) (P3 P5 P6 P7 P8 P9 : sProp 𝕄) :
    iprop((kdats m 0 c).Φ t.castSucc
      ∗ (kdats m 0 c).owesAt () t.castSucc
      ∗ (∃ d, owns (c : Thread nD τ) (st0_0 t) fullShare ((kdats m 0 c).before 0 t d))
      ∗ (∃ d, owns (c : Thread nD τ) (st0_1 t) fullShare ((kdats m 0 c).before 1 t d))
      ∗ (∃ d, owns (c : Thread nD τ) (st0_2 t) fullShare ((kdats m 0 c).before 2 t d))
      ∗ P3
      ∗ (∃ d, owns (c : Thread nD τ) (st0_4 t) fullShare ((kdats m 0 c).before 4 t d))
      ∗ P5
      ∗ P6
      ∗ P7
      ∗ P8
      ∗ P9)
    ⊢ wp Idealize.ShloMosaic.frame (wpE (defs₀ (F := Ideal)) Variants.none c none) Set.univ (bodyAt0 t) (fun _ =>
    iprop((kdats m 0 c).Φ t.succ
      ∗ (kdats m 0 c).owesAt () t.succ
      ∗ owns (c : Thread nD τ) (st0_0 t) fullShare ((kdats m 0 c).after 0 t)
      ∗ owns (c : Thread nD τ) (st0_1 t) fullShare ((kdats m 0 c).after 1 t)
      ∗ (∃ d, owns (c : Thread nD τ) (st0_2 t) fullShare ((cfg0.win 2).fill (cfg0.grid.coords t) d ((cfg0.win 2).cut (cfg0.grid.coords t) ((kdats m 0 c).after 2 t))))
      ∗ P3
      ∗ owns (c : Thread nD τ) (st0_4 t) fullShare ((kdats m 0 c).after 4 t)
      ∗ P5
      ∗ P6
      ∗ P7
      ∗ P8
      ∗ P9)) := by
  have h0 : t.val % 13 ≠ 0 := fun h => h1 ((cond1_iff t).mpr h)
  have ec : (cfg0.win 2).cut (cfg0.grid.coords t) (wtile m c t (fun _ => 0)) = iblk m c 2 t := Pipeline.Window.cut_fill _ _ _ _
  simp only [kbefore0, kbefore1, kbefore2]
  rw [show (kdats m 0 c).Φ t.succ = kΦ m c (t.val + 1) from rfl, show (kdats m 0 c).Φ t.castSucc = kΦ m c t.val from rfl,
    show (kdats m 0 c).owesAt () t.succ = (kdats m 0 c).owesAt () t.castSucc from rfl, kafter0, kafter1, kafter2, kafter4, ec]
  unfold kΦ bodyAt0
  iintro ⟨⟨⟨⟨%f, %e, S0⟩, S1⟩, Hr⟩, Ho, ⟨%d0, H0⟩, ⟨%d1, H1⟩, H2, P3, ⟨%d4, H4⟩, P5, P6, P7, P8, P9⟩
  iapply (wp_wand_r Idealize.ShloMosaic.frame (wpE (defs₀ (F := Ideal)) Variants.none (c : Thread nD τ) none) Set.univ)
  isplitl [H0 H2 H4 S0 S1]
  · iapply (tripC m c t _ _ _ _ _ _ _ _ _ _ _ _ h1 h2 h3 h4)
    isplitl [H0]; · iexact H0
    isplitl [H2]; · iexact H2
    isplitl [H4]; · iexists _; iexact H4
    isplitl [S0]
    · iexists _; isplitr [S0]
      · ipureintro; exact held_at m c t h0 e
      · iexact S0
    iexact S1
  iintro %_ ⟨H0, H2, H4, ⟨%f, %e, S0⟩, S1⟩
  isplitl [S0 S1 Hr]
  · isplitl [S0 S1]
    · isplitl [S0]
      · iexists _; isplitr [S0]
        · ipureintro; exact held_succ m c t e
        · iexact S0
      iexact S1
    iexact Hr
  isplitl [Ho]; · iexact Ho
  isplitl [H0]; · iexact H0
  isplitl [H1]; · iexact H1
  isplitl [H2]; · iexact H2
  isplitl [P3]; · iexact P3
  isplitl [H4]; · iexact H4
  isplitl [P5]; · iexact P5
  isplitl [P6]; · iexact P6
  isplitl [P7]; · iexact P7
  isplitl [P8]; · iexact P8
  iexact P9

/-- A row block's last point: `B`, `C` and `dt` are stored; the other results hold what they held. -/
theorem soundD (t : Fin cfg0.N) (h1 : ¬ k0_cond1 (grid0.coords t) = 1#1) (h2 : ¬ k0_cond2 (grid0.coords t) = 1#1) (h3 : ¬ k0_cond3 (grid0.coords t) = 1#1) (h4 : k0_cond4 (grid0.coords t) = 1#1) :
    iprop((kdats m 0 c).Φ t.castSucc
      ∗ (kdats m 0 c).owesAt () t.castSucc
      ∗ (∃ d, owns (c : Thread nD τ) (st0_0 t) fullShare ((kdats m 0 c).before 0 t d))
      ∗ (∃ d, owns (c : Thread nD τ) (st0_1 t) fullShare ((kdats m 0 c).before 1 t d))
      ∗ (∃ d, owns (c : Thread nD τ) (st0_2 t) fullShare ((kdats m 0 c).before 2 t d))
      ∗ (∃ d, owns (c : Thread nD τ) (st0_3 t) fullShare ((kdats m 0 c).before 3 t d))
      ∗ (∃ d, owns (c : Thread nD τ) (st0_4 t) fullShare ((kdats m 0 c).before 4 t d))
      ∗ (∃ d, owns (c : Thread nD τ) (st0_5 t) fullShare ((kdats m 0 c).before 5 t d))
      ∗ (∃ d, owns (c : Thread nD τ) (st0_6 t) fullShare ((kdats m 0 c).before 6 t d))
      ∗ (∃ d, owns (c : Thread nD τ) (st0_7 t) fullShare ((kdats m 0 c).before 7 t d))
      ∗ (∃ d, owns (c : Thread nD τ) (st0_8 t) fullShare ((kdats m 0 c).before 8 t d))
      ∗ (∃ d, owns (c : Thread nD τ) (st0_9 t) fullShare ((kdats m 0 c).before 9 t d)))
    ⊢ wp Idealize.ShloMosaic.frame (wpE (defs₀ (F := Ideal)) Variants.none c none) Set.univ (bodyAt0 t) (fun _ =>
    iprop((kdats m 0 c).Φ t.succ
      ∗ (kdats m 0 c).owesAt () t.succ
      ∗ owns (c : Thread nD τ) (st0_0 t) fullShare ((kdats m 0 c).after 0 t)
      ∗ owns (c : Thread nD τ) (st0_1 t) fullShare ((kdats m 0 c).after 1 t)
      ∗ (∃ d, owns (c : Thread nD τ) (st0_2 t) fullShare ((cfg0.win 2).fill (cfg0.grid.coords t) d ((cfg0.win 2).cut (cfg0.grid.coords t) ((kdats m 0 c).after 2 t))))
      ∗ owns (c : Thread nD τ) (st0_3 t) fullShare ((kdats m 0 c).after 3 t)
      ∗ owns (c : Thread nD τ) (st0_4 t) fullShare ((kdats m 0 c).after 4 t)
      ∗ owns (c : Thread nD τ) (st0_5 t) fullShare ((kdats m 0 c).after 5 t)
      ∗ owns (c : Thread nD τ) (st0_6 t) fullShare ((kdats m 0 c).after 6 t)
      ∗ owns (c : Thread nD τ) (st0_7 t) fullShare ((kdats m 0 c).after 7 t)
      ∗ owns (c : Thread nD τ) (st0_8 t) fullShare ((kdats m 0 c).after 8 t)
      ∗ owns (c : Thread nD τ) (st0_9 t) fullShare ((kdats m 0 c).after 9 t))) := by
  have h0 : t.val % 13 ≠ 0 := fun h => h1 ((cond1_iff t).mpr h)
  have ht : t.val % 13 = 12 := (cond4_iff t).mp h4
  have ec : (cfg0.win 2).cut (cfg0.grid.coords t) (wtile m c t (fun _ => 0)) = iblk m c 2 t := Pipeline.Window.cut_fill _ _ _ _
  simp only [kbefore0, kbefore1, kbefore2, before3_last m c t ht, before4_last m c t ht, before8_last m c t ht, before9_last m c t ht]
  rw [show (kdats m 0 c).Φ t.succ = kΦ m c (t.val + 1) from rfl, show (kdats m 0 c).Φ t.castSucc = kΦ m c t.val from rfl,
    show (kdats m 0 c).owesAt () t.succ = (kdats m 0 c).owesAt () t.castSucc from rfl, kafter0, kafter1, kafter2, kafter3, kafter4, kafter5, kafter6, kafter7, kafter8, kafter9, ec]
  unfold kΦ bodyAt0
  iintro ⟨⟨⟨⟨%f, %e, S0⟩, S1⟩, Hr⟩, Ho, ⟨%d0, H0⟩, ⟨%d1, H1⟩, H2, ⟨%d3, H3⟩, ⟨%d4, H4⟩, ⟨%d5, H5⟩, ⟨%d6, H6⟩, ⟨%d7, H7⟩, ⟨%d8, H8⟩, ⟨%d9, H9⟩⟩
  iapply (wp_wand_r Idealize.ShloMosaic.frame (wpE (defs₀ (F := Ideal)) Variants.none (c : Thread nD τ) none) Set.univ)
  isplitl [H0 H2 H5 H6 H7 S0 S1]
  · iapply (tripD m c t _ _ _ _ _ _ _ _ _ _ _ _ h1 h2 h3 h4)
    isplitl [H0]; · iexact H0
    isplitl [H2]; · iexact H2
    isplitl [H5]; · iexists _; iexact H5
    isplitl [H6]; · iexists _; iexact H6
    isplitl [H7]; · iexists _; iexact H7
    isplitl [S0]
    · iexists _; isplitr [S0]
      · ipureintro; exact held_at m c t h0 e
      · iexact S0
    iexact S1
  iintro %_ ⟨H0, H2, H5, H6, H7, ⟨%f, %e, S0⟩, S1⟩
  isplitl [S0 S1 Hr]
  · isplitl [S0 S1]
    · isplitl [S0]
      · iexists _; isplitr [S0]
        · ipureintro; exact held_succ m c t e
        · iexact S0
      iexact S1
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem flush5 : ∀ t : Fin grid0.N, win0_5.flush t = decide (t.val % 13 = 12) := by decide +kernel
theorem flush6 : ∀ t : Fin grid0.N, win0_6.flush t = decide (t.val % 13 = 12) := by decide +kernel
theorem flush7 : ∀ t : Fin grid0.N, win0_7.flush t = decide (t.val % 13 = 12) := by decide +kernel

/-- The body at any point, each window idle or not as the schedule has it. -/

theorem obligation (hs : ∀ t, BSmall (iblk m c 1 t)) : BodyObligationLoose (kdats m 0 c) (defs₀ (F := Ideal)) Variants.none () Set.univ := fun t => by
  rw [bigSep_W0, bigSep_W0, defs₀_row]
  have e1 := cond1_iff t
  have e2 := cond2_iff t
  have e3 := cond3_iff t
  have e4 := cond4_iff t
  have f3 : (cfg0.win 3).flush t = _ := flush3 t
  have f4 : (cfg0.win 4).flush t = _ := flush4 t
  have f5 : (cfg0.win 5).flush t = _ := flush5 t
  have f6 : (cfg0.win 6).flush t = _ := flush6 t
  have f7 : (cfg0.win 7).flush t = _ := flush7 t
  have f8 : (cfg0.win 8).flush t = _ := flush8 t
  have f9 : (cfg0.win 9).flush t = _ := flush9 t
  rcases courses (grid0.coords t) with ⟨h1, h2, h3, h4⟩ | ⟨h1, h2, h3, h4⟩ | ⟨h1, h2, h3, h4⟩ | ⟨h1, h2, h3, h4⟩
  · have g1 := e1.mp h1
    have g2 := e2.mp h2
    have g3 := mt e3.mpr h3
    have g4 := mt e4.mpr h4
    rw [show cfg0.idle 3 (cfg0.grid.coords t) = false from by rw [idle3, beq_iff_eq.mpr h2]; rfl]
    rw [show cfg0.idle 4 (cfg0.grid.coords t) = true from by rw [idle4, beq_eq_false_iff_ne.mpr h3]; rfl]
    rw [show cfg0.idle 5 (cfg0.grid.coords t) = true from by rw [idle5, beq_eq_false_iff_ne.mpr h4]; rfl]
    try rw [show cfg0.idle 6 (cfg0.grid.coords t) = true from by rw [idle6, beq_eq_false_iff_ne.mpr h4]; rfl]
    try rw [show cfg0.idle 7 (cfg0.grid.coords t) = true from by rw [idle7, beq_eq_false_iff_ne.mpr h4]; rfl]
    rw [show cfg0.idle 8 (cfg0.grid.coords t) = false from by rw [idle8, beq_iff_eq.mpr h1]; rfl]
    try rw [show cfg0.idle 9 (cfg0.grid.coords t) = false from by rw [idle9, beq_iff_eq.mpr h1]; rfl]
    rw [show (cfg0.win 4).flush t = false from f4.trans (decide_eq_false (by omega))]
    rw [show (cfg0.win 5).flush t = false from f5.trans (decide_eq_false (by omega))]
    rw [show (cfg0.win 6).flush t = false from f6.trans (decide_eq_false (by omega))]
    rw [show (cfg0.win 7).flush t = false from f7.trans (decide_eq_false (by omega))]
    exact soundA m c t (hs t) h1 h2 h3 h4 _ _ _ _
  · have g1 := mt e1.mpr h1
    have g2 := e2.mp h2
    have g3 := mt e3.mpr h3
    have g4 := mt e4.mpr h4
    rw [show cfg0.idle 3 (cfg0.grid.coords t) = false from by rw [idle3, beq_iff_eq.mpr h2]; rfl]
    rw [show cfg0.idle 4 (cfg0.grid.coords t) = true from by rw [idle4, beq_eq_false_iff_ne.mpr h3]; rfl]
    rw [show cfg0.idle 5 (cfg0.grid.coords t) = true from by rw [idle5, beq_eq_false_iff_ne.mpr h4]; rfl]
    try rw [show cfg0.idle 6 (cfg0.grid.coords t) = true from by rw [idle6, beq_eq_false_iff_ne.mpr h4]; rfl]
    try rw [show cfg0.idle 7 (cfg0.grid.coords t) = true from by rw [idle7, beq_eq_false_iff_ne.mpr h4]; rfl]
    rw [show cfg0.idle 8 (cfg0.grid.coords t) = true from by rw [idle8, beq_eq_false_iff_ne.mpr h1]; rfl]
    try rw [show cfg0.idle 9 (cfg0.grid.coords t) = true from by rw [idle9, beq_eq_false_iff_ne.mpr h1]; rfl]
    rw [show (cfg0.win 4).flush t = false from f4.trans (decide_eq_false (by omega))]
    rw [show (cfg0.win 5).flush t = false from f5.trans (decide_eq_false (by omega))]
    rw [show (cfg0.win 6).flush t = false from f6.trans (decide_eq_false (by omega))]
    rw [show (cfg0.win 7).flush t = false from f7.trans (decide_eq_false (by omega))]
    rw [show (cfg0.win 8).flush t = false from f8.trans (decide_eq_false (by omega))]
    rw [show (cfg0.win 9).flush t = false from f9.trans (decide_eq_false (by omega))]
    exact soundB m c t h1 h2 h3 h4 _ _ _ _ _ _
  · have g1 := mt e1.mpr h1
    have g2 := mt e2.mpr h2
    have g3 := e3.mp h3
    have g4 := mt e4.mpr h4
    rw [show cfg0.idle 3 (cfg0.grid.coords t) = true from by rw [idle3, beq_eq_false_iff_ne.mpr h2]; rfl]
    rw [show cfg0.idle 4 (cfg0.grid.coords t) = false from by rw [idle4, beq_iff_eq.mpr h3]; rfl]
    rw [show cfg0.idle 5 (cfg0.grid.coords t) = true from by rw [idle5, beq_eq_false_iff_ne.mpr h4]; rfl]
    try rw [show cfg0.idle 6 (cfg0.grid.coords t) = true from by rw [idle6, beq_eq_false_iff_ne.mpr h4]; rfl]
    try rw [show cfg0.idle 7 (cfg0.grid.coords t) = true from by rw [idle7, beq_eq_false_iff_ne.mpr h4]; rfl]
    rw [show cfg0.idle 8 (cfg0.grid.coords t) = true from by rw [idle8, beq_eq_false_iff_ne.mpr h1]; rfl]
    try rw [show cfg0.idle 9 (cfg0.grid.coords t) = true from by rw [idle9, beq_eq_false_iff_ne.mpr h1]; rfl]
    rw [show (cfg0.win 3).flush t = false from f3.trans (decide_eq_false (by omega))]
    rw [show (cfg0.win 5).flush t = false from f5.trans (decide_eq_false (by omega))]
    rw [show (cfg0.win 6).flush t = false from f6.trans (decide_eq_false (by omega))]
    rw [show (cfg0.win 7).flush t = false from f7.trans (decide_eq_false (by omega))]
    rw [show (cfg0.win 8).flush t = false from f8.trans (decide_eq_false (by omega))]
    rw [show (cfg0.win 9).flush t = false from f9.trans (decide_eq_false (by omega))]
    exact soundC m c t h1 h2 h3 h4 _ _ _ _ _ _
  · have g1 := mt e1.mpr h1
    have g2 := mt e2.mpr h2
    have g3 := mt e3.mpr h3
    have g4 := e4.mp h4
    rw [show cfg0.idle 3 (cfg0.grid.coords t) = true from by rw [idle3, beq_eq_false_iff_ne.mpr h2]; rfl]
    rw [show cfg0.idle 4 (cfg0.grid.coords t) = true from by rw [idle4, beq_eq_false_iff_ne.mpr h3]; rfl]
    rw [show cfg0.idle 5 (cfg0.grid.coords t) = false from by rw [idle5, beq_iff_eq.mpr h4]; rfl]
    try rw [show cfg0.idle 6 (cfg0.grid.coords t) = false from by rw [idle6, beq_iff_eq.mpr h4]; rfl]
    try rw [show cfg0.idle 7 (cfg0.grid.coords t) = false from by rw [idle7, beq_iff_eq.mpr h4]; rfl]
    rw [show cfg0.idle 8 (cfg0.grid.coords t) = true from by rw [idle8, beq_eq_false_iff_ne.mpr h1]; rfl]
    try rw [show cfg0.idle 9 (cfg0.grid.coords t) = true from by rw [idle9, beq_eq_false_iff_ne.mpr h1]; rfl]
    rw [show (cfg0.win 3).flush t = true from f3.trans (decide_eq_true (by omega))]
    rw [show (cfg0.win 4).flush t = true from f4.trans (decide_eq_true (by omega))]
    rw [show (cfg0.win 8).flush t = true from f8.trans (decide_eq_true (by omega))]
    rw [show (cfg0.win 9).flush t = true from f9.trans (decide_eq_true (by omega))]
    exact soundD m c t h1 h2 h3 h4

theorem kin : Pipeline.ΦA spec0 c ⊢ (kdats m 0 c).Φ 0 := by
  rw [show (kdats m 0 c).Φ 0 = kΦ m c 0 from rfl]
  unfold Pipeline.ΦA kΦ
  rw [Gen.scopedRest0_eq]
  unfold pt
  simp only [Memref.view_whole, View.set_whole]
  iintro ⟨⟨⟨%f, S0⟩, S1⟩, Hr⟩
  isplitl [S0 S1]
  · isplitl [S0]
    · iexists f; isplitr [S0]
      · ipureintro; exact fun h => absurd rfl h
      · iexact S0
    iexact S1
  iexact Hr

theorem kout : (kdats m 0 c).Φ (Fin.last cfg0.N) ⊢ Pipeline.ΦA spec0 c := by
  rw [show (kdats m 0 c).Φ (Fin.last cfg0.N) = kΦ m c cfg0.N from rfl]
  unfold Pipeline.ΦA kΦ
  rw [Gen.scopedRest0_eq]
  unfold pt
  simp only [Memref.view_whole, View.set_whole]
  iintro ⟨⟨⟨%f, %e, S0⟩, S1⟩, Hr⟩
  isplitl [S0 S1]
  · isplitl [S0]
    · iexists f; iexact S0
    iexact S1
  iexact Hr

end

set_option backward.isDefEq.respectTransparency.types false in
/-- The run: each result's array ends as the blocks written back make it, everything else as it was. -/
theorem run (hs : ∀ c t, BSmall (iblk m c 1 t)) : θ_run defs (onTc (τ := τ) (main (F := Ideal))) (s₀ m ρ)
    (Pipeline.FramePost cfgs (kdats m) 0 (V m)) :=
  Pipeline.θ_run_frame_track cfgs (kdats m) (0 : Fin 1) launch0 defs₀ Variants.none m ρ main
    (hbody := fun c => obligation m c (hs c)) (hshare := fun c => (kdats m 0 c).share_full fun _ => rfl)
    (howed := fun _ _ => rfl) (V := V m) (hmain := hmain m Variants.none) (hA := kA_eq m) (hin := kin m) (hout := kout m)

end Cert.KernelIdeal.Hand

end
-- ==== Proof.Ideal.KFinal.lean ====
module

public import proofs.«01_k».proof.Proof.Ideal.KRun
public import Idealize.ShloMosaic.Lib.Pipeline.ValueKit.Geometry

@[expose] public section

set_option maxRecDepth 16384
set_option maxHeartbeats 4000000

/-!
The kernel's result arrays over the extended reals are the arrays specified.
-/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen Cert.Spec

variable (m : (ℓ : Loc nD τ sig) → Buf (Elt Ideal) ℓ) (ρ : Dev nD → PrngReg) (c : Dev nD)

theorem mul_comm_add (k a n : ℕ) : k * a + n = a * k + n := by rw [Nat.mul_comm]

theorem final3 : (kdats m 0 c).arrAt 3 cfg0.N = z (aU m c) (aW m c) (aS m c) := by
  refine (kdats m 0 c).arrAt_eq_of_covers 3 _ (by decide +kernel) fun t hf y => ?_
  blk_simp
  rw [kafter3]
  unfold out3
  refine congrArg (z (aU m c) (aW m c) (aS m c)) ?_
  funext a
  apply Fin.ext
  have e := index3 t
  match a with
  | ⟨0, _⟩ => blk_simp [e]; exact mul_comm_add _ _ _
  | ⟨1, _⟩ => blk_simp [e]; exact mul_comm_add _ _ _

theorem final4 : (kdats m 0 c).arrAt 4 cfg0.N = x (aU m c) (aW m c) (aS m c) := by
  refine (kdats m 0 c).arrAt_eq_of_covers 4 _ (by decide +kernel) fun t hf y => ?_
  blk_simp
  rw [kafter4]
  unfold out4
  refine congrArg (x (aU m c) (aW m c) (aS m c)) ?_
  funext a
  apply Fin.ext
  have e := index4 t
  match a with
  | ⟨0, _⟩ => blk_simp [e]; exact mul_comm_add _ _ _
  | ⟨1, _⟩ => blk_simp [e]; exact mul_comm_add _ _ _

theorem final5 : (kdats m 0 c).arrAt 5 cfg0.N = b (aU m c) (aW m c) (aS m c) := by
  refine (kdats m 0 c).arrAt_eq_of_covers 5 _ (by decide +kernel) fun t hf y => ?_
  blk_simp
  rw [kafter5]
  unfold out5
  refine congrArg (b (aU m c) (aW m c) (aS m c)) ?_
  funext a
  apply Fin.ext
  have e := index5 t
  match a with
  | ⟨0, _⟩ => blk_simp [e]; exact mul_comm_add _ _ _
  | ⟨1, _⟩ => blk_simp [e]; rfl

theorem final6 : (kdats m 0 c).arrAt 6 cfg0.N = Spec.c (aU m c) (aW m c) (aS m c) := by
  refine (kdats m 0 c).arrAt_eq_of_covers 6 _ (by decide +kernel) fun t hf y => ?_
  blk_simp
  rw [kafter6]
  unfold out6
  refine congrArg (Spec.c (aU m c) (aW m c) (aS m c)) ?_
  funext a
  apply Fin.ext
  have e := index6 t
  match a with
  | ⟨0, _⟩ => blk_simp [e]; exact mul_comm_add _ _ _
  | ⟨1, _⟩ => blk_simp [e]; rfl

theorem final7 : (kdats m 0 c).arrAt 7 cfg0.N = dt (aU m c) (aW m c) (aS m c) := by
  refine (kdats m 0 c).arrAt_eq_of_covers 7 _ (by decide +kernel) fun t hf y => ?_
  blk_simp
  rw [kafter7]
  unfold out7
  refine congrArg (dt (aU m c) (aW m c) (aS m c)) ?_
  funext a
  apply Fin.ext
  have e := index7 t
  match a with
  | ⟨0, _⟩ => blk_simp [e]; exact mul_comm_add _ _ _
  | ⟨1, _⟩ => blk_simp [e]; rfl

theorem final8 : (kdats m 0 c).arrAt 8 cfg0.N = codes (aU m c) := by
  refine (kdats m 0 c).arrAt_eq_of_covers 8 _ (by decide +kernel) fun t hf y => ?_
  blk_simp
  rw [kafter8]
  unfold out8
  refine congrArg (codes (aU m c)) ?_
  funext a
  apply Fin.ext
  have e := index8 t
  match a with
  | ⟨0, _⟩ => blk_simp [e]; exact mul_comm_add _ _ _
  | ⟨1, _⟩ => blk_simp [e]; rfl

theorem final9 : (kdats m 0 c).arrAt 9 cfg0.N = scales (aU m c) := by
  refine (kdats m 0 c).arrAt_eq_of_covers 9 _ (by decide +kernel) fun t hf y => ?_
  blk_simp
  rw [kafter9]
  unfold out9
  refine congrArg (scales (aU m c)) ?_
  funext a
  apply Fin.ext
  have e := index9 t
  match a with
  | ⟨0, _⟩ => blk_simp [e]; exact mul_comm_add _ _ _
  | ⟨1, _⟩ => blk_simp [e]; rfl

/-- The run of the kernel: the results are the arrays specified, the arguments are as they were. -/
theorem run_spec (hs : ∀ c t, BSmall (iblk m c 1 t)) : θ_run defs (onTc (τ := τ) (main (F := Ideal))) ⟨m, fun _ => 0, ρ⟩ (fun r => ∀ c : Dev nD,
      r.2.mem ((c.tc : Thread nD τ).loc main_v1_0) = z (aU m c) (aW m c) (aS m c)
      ∧ r.2.mem ((c.tc : Thread nD τ).loc main_v1_1) = x (aU m c) (aW m c) (aS m c)
      ∧ r.2.mem ((c.tc : Thread nD τ).loc main_v1_2) = b (aU m c) (aW m c) (aS m c)
      ∧ r.2.mem ((c.tc : Thread nD τ).loc main_v1_3) = Spec.c (aU m c) (aW m c) (aS m c)
      ∧ r.2.mem ((c.tc : Thread nD τ).loc main_v1_4) = dt (aU m c) (aW m c) (aS m c)
      ∧ r.2.mem ((c.tc : Thread nD τ).loc main_v1_5) = codes (aU m c)
      ∧ r.2.mem ((c.tc : Thread nD τ).loc main_v1_6) = scales (aU m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).1 3).trans (final3 m c), ((h c).1 4).trans (final4 m c), ((h c).1 5).trans (final5 m c),
      ((h c).1 6).trans (final6 m c), ((h c).1 7).trans (final7 m c), ((h c).1 8).trans (final8 m c), ((h c).1 9).trans (final9 m c),
      ((h c).2 main_arg0 (Pipeline.mem_restRefs_of main_arg0 (by decide) (by decide))).trans (V_main_arg0 m c),
      ((h c).1 2).trans (((kdats m 0 c).arrAt_in 2 rfl _).trans ((kA_eq m c 2).trans (V_main_arg1 m c))),
      ((h c).1 0).trans (((kdats m 0 c).arrAt_in 0 rfl _).trans ((kA_eq m c 0).trans (V_main_arg2 m c)))⟩) (run m ρ hs)

end Cert.KernelIdeal.Hand

end
-- ==== Proof.Ideal.RValue.lean ====
module

public import proofs.«01_k».proof.Proof.Gen.ReferenceIdeal.Value
public import proofs.«01_k».proof.Proof.Ideal.Spec
public import Idealize.ShloMosaic.Lib.Pointwise
public import Idealize.ShloMosaic.Lib.ValueLayout
public import Idealize.ShloMosaic.Lib.ValueLayoutCasts
public import Idealize.ShloMosaic.Lib.MatmulPlain
public import Idealize.ShloMosaic.Lib.VecWindow

@[expose] public section

set_option maxRecDepth 16384

/-!
What the reference computes, element by element, over the extended reals.
-/

noncomputable section

namespace Cert.ReferenceIdeal.Hand

open Idealize.ShloMosaic
open Cert.ReferenceIdeal.Gen Cert.Spec

section layouts
variable {α : Type}

theorem split_apply (V : S4096x7936.Idx → α) (r : Fin 4096) (g : Fin 62) (l : Fin 128) :
    shapeCast S4096x62x128 V shapeCasts_S4096x7936_S4096x62x128 (ix3 r g l) = V (ix2 r (col g l)) :=
  shapeCast_apply _ _ _ _ (by
    rw [Shape.rowMajor_val_three, Shape.rowMajor_val_two]
    show r.val * 7936 + (128 * g.val + l.val) = (r.val * 62 + g.val) * 128 + l.val
    omega)

theorem join_apply (V : S4096x62x128.Idx → α) (r : Fin 4096) (k : Fin 7936) :
    shapeCast S4096x7936 V shapeCasts_S4096x62x128_S4096x7936 (ix2 r k) = V (ix3 r (grp k) (lane k)) :=
  shapeCast_apply _ _ _ _ (by
    rw [Shape.rowMajor_val_three, Shape.rowMajor_val_two]
    show (r.val * 62 + k.val / 128) * 128 + k.val % 128 = r.val * 7936 + k.val
    omega)

theorem spread_apply (V : S4096x62.Idx → α) (r : Fin 4096) (g : Fin 62) (l : Fin 128) :
    broadcastTo S4096x62x128 (shapeCast S4096x62x1 V shapeCasts_S4096x62_S4096x62x1) broadcasts_S4096x62x1_S4096x62x128 (ix3 r g l) = V (ix2 r g) := by
  have e : ∀ x : S4096x62x1.Idx → α, broadcastTo S4096x62x128 x broadcasts_S4096x62x1_S4096x62x128 (ix3 r g l) = x (ix3 r g 0) := fun x => by
    simp only [pointwise]
    rfl
  rw [e]
  refine shapeCast_apply _ _ _ _ (by
    rw [Shape.rowMajor_val_three, Shape.rowMajor_val_two]
    show r.val * 62 + g.val = (r.val * 62 + g.val) * 1 + 0
    omega)

theorem wsplit_apply (V : S6448x7936.Idx → α) (n : Fin 6448) (g : Fin 62) (l : Fin 128) :
    shapeCast S6448x62x128 V shapeCasts_S6448x7936_S6448x62x128 (ix3 n g l) = V (ix2 n (col g l)) :=
  shapeCast_apply _ _ _ _ (by
    rw [Shape.rowMajor_val_three, Shape.rowMajor_val_two]
    show n.val * 7936 + (128 * g.val + l.val) = (n.val * 62 + g.val) * 128 + l.val
    omega)

theorem wjoin_apply (V : S6448x62x128.Idx → α) (n : Fin 6448) (k : Fin 7936) :
    shapeCast S6448x7936 V shapeCasts_S6448x62x128_S6448x7936 (ix2 n k) = V (ix3 n (grp k) (lane k)) :=
  shapeCast_apply _ _ _ _ (by
    rw [Shape.rowMajor_val_three, Shape.rowMajor_val_two]
    show (n.val * 62 + k.val / 128) * 128 + k.val % 128 = n.val * 7936 + k.val
    omega)

theorem wspread_apply (V : S6448x62.Idx → α) (n : Fin 6448) (g : Fin 62) (l : Fin 128) :
    broadcastTo S6448x62x128 (shapeCast S6448x62x1 V shapeCasts_S6448x62_S6448x62x1) broadcasts_S6448x62x1_S6448x62x128 (ix3 n g l) = V (ix2 n g) := by
  have e : ∀ x : S6448x62x1.Idx → α, broadcastTo S6448x62x128 x broadcasts_S6448x62x1_S6448x62x128 (ix3 n g l) = x (ix3 n g 0) := fun x => by
    simp only [pointwise]
    rfl
  rw [e]
  refine shapeCast_apply _ _ _ _ (by
    rw [Shape.rowMajor_val_three, Shape.rowMajor_val_two]
    show n.val * 62 + g.val = (n.val * 62 + g.val) * 1 + 0
    omega)

/-- The scales of the weights' block rows, a row each. -/
theorem rows_apply (V : S51x62.Idx → α) (n : Fin 6448) (g : Fin 62) :
    extractStridedSlice S6448x62 ![0, 0] (shapeCast S6528x62 (broadcastTo S51x128x62 (shapeCast S51x1x62 (shapeCast S51x1x62 V shapeCasts_S51x62_S51x1x62) shapeCasts_S51x1x62_S51x1x62)
      broadcasts_S51x1x62_S51x128x62) shapeCasts_S51x128x62_S6528x62) slices_S6528x62_o0_0_S6448x62 (ix2 n g) = V (ix2 (wgrp n) g) := by
  rw [shapeCast_id]
  have e : extractStridedSlice S6448x62 ![0, 0] (shapeCast S6528x62 (broadcastTo S51x128x62 (shapeCast S51x1x62 V shapeCasts_S51x62_S51x1x62)
      broadcasts_S51x1x62_S51x128x62) shapeCasts_S51x128x62_S6528x62) slices_S6528x62_o0_0_S6448x62 (ix2 n g)
      = shapeCast S6528x62 (broadcastTo S51x128x62 (shapeCast S51x1x62 V shapeCasts_S51x62_S51x1x62) broadcasts_S51x1x62_S51x128x62) shapeCasts_S51x128x62_S6528x62
        (ix2 (⟨n.val, by omega⟩ : Fin 6528) g) := by
    refine congrArg (shapeCast S6528x62 _ _) ?_
    funext a
    apply Fin.ext
    match a with
    | ⟨0, _⟩ => show 0 + n.val = n.val; omega
    | ⟨1, _⟩ => show 0 + g.val = g.val; omega
  rw [e]
  refine (shapeCast_apply _ _ _ (ix3 (wgrp n) (⟨n.val % 128, by omega⟩ : Fin 128) g) (by
    rw [Shape.rowMajor_val_three, Shape.rowMajor_val_two]
    show ((n.val / 128) * 128 + n.val % 128) * 62 + g.val = n.val * 62 + g.val
    omega)).trans ?_
  have eb : ∀ x : S51x1x62.Idx → α, broadcastTo S51x128x62 x broadcasts_S51x1x62_S51x128x62 (ix3 (wgrp n) (⟨n.val % 128, by omega⟩ : Fin 128) g) = x (ix3 (wgrp n) 0 g) := fun x => by
    simp only [pointwise]
    rfl
  rw [eb]
  refine shapeCast_apply _ _ _ _ (by
    rw [Shape.rowMajor_val_three, Shape.rowMajor_val_two]
    show (n.val / 128) * 62 + g.val = ((n.val / 128) * 1 + 0) * 62 + g.val
    omega)

end layouts

/-! ### The quantiser -/

section quantiser
variable (U : Vec Ideal S4096x7936 .bf16)

theorem pay8_apply (r : Fin 4096) (g : Fin 62) (l : Fin 128) : k0_pay8 U (ix3 r g l) = part (urow U r) g l := by
  unfold k0_pay8
  rw [shapeCast_id]
  exact split_apply _ r g l

theorem amax_apply (r : Fin 4096) (g : Fin 62) :
    multiReduction .maximumf [2] S4096x62 (absf (k0_pay8 U)) 0xFF800000#32 reduces_S4096x62x128_S4096x62 (.inl rfl) rfl (ix2 r g)
      = Quant.amax (part (urow U r) g) := by
  refine (Ideal.multiReduction_maximumf_single _ _ _ _ _ _).trans ?_
  unfold Quant.amax
  congr 1
  funext l
  have e : reduces_S4096x62x128_S4096x62.lift (ix2 r g) l = ix3 r g l := by
    funext a
    match a with
    | ⟨0, _⟩ => rfl
    | ⟨1, _⟩ => rfl
    | ⟨2, _⟩ => rfl
  show (absf (k0_pay8 U)) (reduces_S4096x62x128_S4096x62.lift (ix2 r g) l) = _
  rw [e]
  exact congrArg (fun x : EReal => max x (-x)) (pay8_apply U r g l)

/-- The named logarithm is the logarithm of two. -/
theorem ln2_eq : (Named.named κ "ln_2" 0x3F317218#32 : Ideal .f32) = ((Real.log 2 : ℝ) : EReal) := by
  show (κ "ln_2").getD _ = _
  simp only [κ, Option.getD]

theorem expo_apply (M : FVec Ideal S4096x62 .f32) (L : Ideal .f32) (hL : L = ((Real.log 2 : ℝ) : EReal)) (y : S4096x62.Idx) :
    (select (cmpf .olt M (broadcast S4096x62 (Scalar.ofBits .f32 0x00800000#32))) (broadcast S4096x62 (Scalar.ofBits .f32 0x00000000#32))
      (addf (floor (divf (log M) (broadcast S4096x62 L))) (broadcast S4096x62 (Scalar.ofBits .f32 0x3F800000#32))) : FVec Ideal S4096x62 .f32) y
      = Quant.expo (M y) := by
  subst hL
  show Scalar.select (BitVec.ofBool (decide (M y < Ideal.ofBits .f32 0x00800000#32))) _ _ = _
  unfold Quant.expo
  by_cases h : M y < Ideal.ofBits .f32 0x00800000#32
  · rw [if_pos h, decide_eq_true h]; rfl
  · rw [if_neg h, decide_eq_false h]; rfl

theorem times_apply (M : FVec Ideal S4096x62 .f32) (c : Ideal .f32) (y : S4096x62.Idx) :
    (mulf M (broadcast S4096x62 c) : FVec Ideal S4096x62 .f32) y = (M y : EReal) * (c : EReal) := rfl

theorem ratio_apply (r : Fin 4096) (g : Fin 62) :
    (mulf (multiReduction .maximumf [2] S4096x62 (absf (k0_pay8 U)) 0xFF800000#32 reduces_S4096x62x128_S4096x62 (.inl rfl) rfl)
      (broadcast S4096x62 (Scalar.ofBits .f32 0x3B124925#32)) : FVec Ideal S4096x62 .f32) (ix2 r g) = Quant.ratio (part (urow U r) g) := by
  rw [times_apply, amax_apply]
  rfl

theorem pay9_apply (r : Fin 4096) (g : Fin 62) : k0_pay9 U (ix2 r g) = Quant.expo (Quant.ratio (part (urow U r) g)) := by
  unfold k0_pay9
  rw [← ratio_apply]
  exact expo_apply _ _ ln2_eq (ix2 r g)

theorem exp2_read (V : FVec Ideal S4096x62 .f32) (y : S4096x62.Idx) : (exp2 V : FVec Ideal S4096x62 .f32) y = Ideal.exp2 (V y) := rfl

theorem pay10_apply (r : Fin 4096) (g : Fin 62) : k0_pay10 U (ix2 r g) = rscl (urow U r) g := by
  unfold k0_pay10
  rw [exp2_read, pay9_apply]
  rfl

theorem inv_read (V : FVec Ideal S4096x62 .f32) (y : S4096x62.Idx) :
    (exp2 (subf (broadcast S4096x62 (Scalar.ofBits .f32 0x00000000#32)) V) : FVec Ideal S4096x62 .f32) y = Ideal.exp2 (Ideal.ofBits .f32 0x00000000#32 - V y) := rfl

theorem clip_read (X Y : FVec Ideal S4096x62x128 .f32) (y : S4096x62x128.Idx) :
    (truncf .fp8e4m3 (minimumf (broadcast S4096x62x128 (Scalar.ofBits .f32 0x43E00000#32)) (maximumf (broadcast S4096x62x128 (Scalar.ofBits .f32 0xC3E00000#32)) (mulf X Y))) bitsLt_fp8e4m3_f32
      : FVec Ideal S4096x62x128 .fp8e4m3) y
      = min (Ideal.ofBits .f32 0x43E00000#32) (max (Ideal.ofBits .f32 0xC3E00000#32) ((X y : EReal) * (Y y : EReal))) := rfl

theorem pay11_apply (r : Fin 4096) (g : Fin 62) (l : Fin 128) : k0_pay11 U (ix3 r g l) = Quant.code (part (urow U r) g) l := by
  unfold k0_pay11
  rw [clip_read, spread_apply, inv_read, pay8_apply, pay9_apply]
  rfl

theorem deq_read (X : FVec Ideal S4096x62x128 .fp8e4m3) (Y : FVec Ideal S4096x62x128 .bf16) (y : S4096x62x128.Idx) :
    (mulf (extf .bf16 X bitsLt_fp8e4m3_bf16) Y : FVec Ideal S4096x62x128 .bf16) y = (X y : EReal) * (Y y : EReal) := rfl

theorem trunc_read (V : FVec Ideal S4096x62 .f32) (y : S4096x62.Idx) : (truncf .bf16 V bitsLt_bf16_f32 : FVec Ideal S4096x62 .bf16) y = (V y : EReal) := rfl

theorem pay7_apply (r : Fin 4096) (k : Fin 7936) : k0_pay7 (k0_pay11 U) (ix2 r k) = rcode (urow U r) k :=
  (join_apply _ r k).trans (pay11_apply U r (grp k) (lane k))

theorem pay12_apply (r : Fin 4096) (k : Fin 7936) : k0_pay12 U (ix2 r k) = rdeq (urow U r) k := by
  unfold k0_pay12
  refine (join_apply _ r k).trans ?_
  rw [deq_read, spread_apply, trunc_read, pay11_apply, pay10_apply]
  rfl

end quantiser

/-! ### The projection -/

section projection
variable (U : Vec Ideal S4096x7936 .bf16) (W : Vec Ideal S6448x7936 .fp8e4m3) (S : Vec Ideal S51x62 .f32)

theorem pay13_apply (n : Fin 6448) (g : Fin 62) : k0_pay13 S (ix2 n g) = S (ix2 (wgrp n) g) := by
  unfold k0_pay13
  exact rows_apply _ n g

theorem weight_apply (n : Fin 6448) (k : Fin 7936) :
    shapeCast S6448x7936 (mulf (shapeCast S6448x62x128 (k0_pay14 W) shapeCasts_S6448x7936_S6448x62x128)
      (broadcastTo S6448x62x128 (shapeCast S6448x62x1 (k0_pay13 S) shapeCasts_S6448x62_S6448x62x1) broadcasts_S6448x62x1_S6448x62x128) : FVec Ideal S6448x62x128 .bf16)
      shapeCasts_S6448x62x128_S6448x7936 (ix2 n k) = wdeq W S n k := by
  rw [wjoin_apply]
  show shapeCast S6448x62x128 (k0_pay14 W) shapeCasts_S6448x7936_S6448x62x128 (ix3 n (grp k) (lane k))
    * broadcastTo S6448x62x128 (shapeCast S6448x62x1 (k0_pay13 S) shapeCasts_S6448x62_S6448x62x1) broadcasts_S6448x62x1_S6448x62x128 (ix3 n (grp k) (lane k)) = _
  rw [wsplit_apply, wspread_apply, pay13_apply, col_grp]
  rfl

theorem pay1_apply (r : Fin 4096) (n : Fin 6448) : k0_pay1 (k0_pay12 U) (k0_pay13 S) (k0_pay14 W) (ix2 r n) = proj U W S r n := by
  unfold k0_pay1
  refine (Ideal.matmul_transposedRhs_apply none _ _ _ r n).trans ?_
  have h0 : constant (F := Ideal) S4096x6448 .f32 0x00000000#32 (ValueIdx.ix2 r n) = (0 : EReal) := Quant.zero_eq
  rw [h0, zero_add]
  unfold proj
  refine Finset.sum_congr rfl fun k _ => ?_
  exact congrArg₂ (· * ·) (pay12_apply U r k) (weight_apply W S n k)

end projection

end Cert.ReferenceIdeal.Hand

end
-- ==== Proof.Ideal.RFinal.lean ====
module

public import proofs.«01_k».proof.Proof.Ideal.RValue
public import Idealize.ShloMosaic.Lib.Pipeline.ValueKit.Geometry

@[expose] public section

set_option maxRecDepth 16384

/-!
The reference's result arrays over the extended reals are the arrays specified.
-/

noncomputable section

namespace Cert.ReferenceIdeal.Hand

open Idealize.ShloMosaic Idealize.ShloMosaic.TcCoe Idealize.SL.Sem
open Idealize.ShloMosaic.Rounds
open Idealize.ShloMosaic.Pipeline (Dat Cfg Window)
open Cert.ReferenceIdeal.Gen Cert.Spec

theorem zeros : (![0, 0] : Fin 2 → ℕ) = fun _ => 0 := by
  funext a
  match a with
  | ⟨0, _⟩ => rfl
  | ⟨1, _⟩ => rfl

/-- A slice of columns of the projection. -/
theorem slice_read {n : ℕ} {off : Fin 2 → ℕ} (h : S4096x6448.Slices off ⟨2, ![4096, n]⟩) (V : FVec Ideal S4096x6448 .f32) (r : Fin 4096) (j : Fin n) (i : Fin 6448)
    (h0 : off 0 = 0) (hi : i.val = off 1 + j.val) :
    (truncf .bf16 (extractStridedSlice ⟨2, ![4096, n]⟩ off V h) bitsLt_bf16_f32 : FVec Ideal ⟨2, ![4096, n]⟩ .bf16) (ix2 r j) = V (ix2 r i) := by
  refine congrArg V ?_
  funext a
  apply Fin.ext
  match a with
  | ⟨0, _⟩ => show off 0 + r.val = r.val; omega
  | ⟨1, _⟩ => show off 1 + j.val = i.val; omega

section results
variable (U : Vec Ideal S4096x7936 .bf16) (W : Vec Ideal S6448x7936 .fp8e4m3) (S : Vec Ideal S51x62 .f32)

theorem out3_eq : out0_3 U W S = z U W S := by
  unfold out0_3 k0_pay15 k0_pay16 k0_pay17
  rw [View.canon_unit_zero zeros, View.ld_unit_zero zeros, View.ld_unit_zero zeros, View.ld_unit_zero zeros]
  funext y
  obtain ⟨r, n, rfl⟩ : ∃ (r : Fin 4096) (n : Fin 3072), y = ix2 r n := ⟨y 0, y 1, eq_ix2 y⟩
  unfold k0_pay2
  refine (slice_read (off := ![0, 0]) slices_S4096x6448_o0_0_S4096x3072 _ r n (⟨0 + n.val, by omega⟩ : Fin 6448) rfl rfl).trans ((pay1_apply U W S r _).trans ?_)
  unfold z
  refine congrArg (proj U W S r) (Fin.ext ?_)
  show 0 + n.val = n.val; omega

theorem out4_eq : out0_4 U W S = x U W S := by
  unfold out0_4 k0_pay15 k0_pay16 k0_pay17
  rw [View.canon_unit_zero zeros, View.ld_unit_zero zeros, View.ld_unit_zero zeros, View.ld_unit_zero zeros]
  funext y
  obtain ⟨r, n, rfl⟩ : ∃ (r : Fin 4096) (n : Fin 3072), y = ix2 r n := ⟨y 0, y 1, eq_ix2 y⟩
  unfold k0_pay3
  refine (slice_read (off := ![0, 3072]) slices_S4096x6448_o0_3072_S4096x3072 _ r n (⟨3072 + n.val, by omega⟩ : Fin 6448) rfl rfl).trans ((pay1_apply U W S r _).trans ?_)
  unfold x
  refine congrArg (proj U W S r) (Fin.ext ?_)
  rfl

theorem out5_eq : out0_5 U W S = b U W S := by
  unfold out0_5 k0_pay15 k0_pay16 k0_pay17
  rw [View.canon_unit_zero zeros, View.ld_unit_zero zeros, View.ld_unit_zero zeros, View.ld_unit_zero zeros]
  funext y
  obtain ⟨r, n, rfl⟩ : ∃ (r : Fin 4096) (n : Fin 128), y = ix2 r n := ⟨y 0, y 1, eq_ix2 y⟩
  unfold k0_pay4
  refine (slice_read (off := ![0, 6144]) slices_S4096x6448_o0_6144_S4096x128 _ r n (⟨6144 + n.val, by omega⟩ : Fin 6448) rfl rfl).trans ((pay1_apply U W S r _).trans ?_)
  unfold b
  refine congrArg (proj U W S r) (Fin.ext ?_)
  rfl

theorem out6_eq : out0_6 U W S = Spec.c U W S := by
  unfold out0_6 k0_pay15 k0_pay16 k0_pay17
  rw [View.canon_unit_zero zeros, View.ld_unit_zero zeros, View.ld_unit_zero zeros, View.ld_unit_zero zeros]
  funext y
  obtain ⟨r, n, rfl⟩ : ∃ (r : Fin 4096) (n : Fin 128), y = ix2 r n := ⟨y 0, y 1, eq_ix2 y⟩
  unfold k0_pay5
  refine (slice_read (off := ![0, 6272]) slices_S4096x6448_o0_6272_S4096x128 _ r n (⟨6272 + n.val, by omega⟩ : Fin 6448) rfl rfl).trans ((pay1_apply U W S r _).trans ?_)
  unfold Spec.c
  refine congrArg (proj U W S r) (Fin.ext ?_)
  rfl

theorem out7_eq : out0_7 U W S = dt U W S := by
  unfold out0_7 k0_pay15 k0_pay16 k0_pay17
  rw [View.canon_unit_zero zeros, View.ld_unit_zero zeros, View.ld_unit_zero zeros, View.ld_unit_zero zeros]
  funext y
  obtain ⟨r, n, rfl⟩ : ∃ (r : Fin 4096) (n : Fin 48), y = ix2 r n := ⟨y 0, y 1, eq_ix2 y⟩
  unfold k0_pay6
  refine (slice_read (off := ![0, 6400]) slices_S4096x6448_o0_6400_S4096x48 _ r n (⟨6400 + n.val, by omega⟩ : Fin 6448) rfl rfl).trans ((pay1_apply U W S r _).trans ?_)
  unfold dt
  refine congrArg (proj U W S r) (Fin.ext ?_)
  rfl

theorem out8_eq : out0_8 U W S = codes U := by
  unfold out0_8
  rw [View.canon_unit_zero zeros, View.ld_unit_zero zeros]
  funext y
  obtain ⟨r, n, rfl⟩ : ∃ (r : Fin 4096) (n : Fin 7936), y = ix2 r n := ⟨y 0, y 1, eq_ix2 y⟩
  exact pay7_apply U r n

theorem out9_eq : out0_9 U W S = scales U := by
  unfold out0_9
  rw [View.canon_unit_zero zeros, View.ld_unit_zero zeros]
  funext y
  obtain ⟨r, n, rfl⟩ : ∃ (r : Fin 4096) (n : Fin 62), y = ix2 r n := ⟨y 0, y 1, eq_ix2 y⟩
  exact pay10_apply U r n

end results

section arrays
variable (m : (ℓ : Loc nD τ sig) → Buf (Elt Ideal) ℓ) (ρ : Dev nD → PrngReg) (c : Dev nD)

/-- The activations. -/
abbrev rU : S4096x7936.Idx → EReal := V m c main_v0
/-- The weights' codes. -/
abbrev rW : S6448x7936.Idx → EReal := V m c main_arg1
/-- The weights' scales. -/
abbrev rS : S51x62.Idx → EReal := V m c main_arg2

theorem index0 : ∀ t : Fin grid0.N, win0_0.index t = ![0, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![0, 0] := by decide +kernel

theorem iblk0_eq (t : Fin grid0.N) : iblk m c 0 t = rU m c := by
  funext y
  obtain ⟨r, k, rfl⟩ : ∃ (r : Fin 4096) (k : Fin 7936), y = ix2 r k := ⟨y 0, y 1, eq_ix2 y⟩
  refine congrArg (rU m c) ?_
  funext a
  apply Fin.ext
  have h0 : win0_0.index t 0 = 0 := by rw [index0]; rfl
  have h1 : win0_0.index t 1 = 0 := by rw [index0]; rfl
  match a with
  | ⟨0, _⟩ => show win0_0.index t 0 * 4096 + 1 * r.val = r.val; rw [h0]; omega
  | ⟨1, _⟩ => show win0_0.index t 1 * 7936 + 1 * k.val = k.val; rw [h1]; omega

theorem iblk1_eq (t : Fin grid0.N) : iblk m c 1 t = rW m c := by
  funext y
  obtain ⟨r, k, rfl⟩ : ∃ (r : Fin 6448) (k : Fin 7936), y = ix2 r k := ⟨y 0, y 1, eq_ix2 y⟩
  refine congrArg (rW m c) ?_
  funext a
  apply Fin.ext
  have h0 : win0_1.index t 0 = 0 := by rw [index1]; rfl
  have h1 : win0_1.index t 1 = 0 := by rw [index1]; rfl
  match a with
  | ⟨0, _⟩ => show win0_1.index t 0 * 6448 + 1 * r.val = r.val; rw [h0]; omega
  | ⟨1, _⟩ => show win0_1.index t 1 * 7936 + 1 * k.val = k.val; rw [h1]; omega

theorem iblk2_eq (t : Fin grid0.N) : iblk m c 2 t = rS m c := by
  funext y
  obtain ⟨r, k, rfl⟩ : ∃ (r : Fin 51) (k : Fin 62), y = ix2 r k := ⟨y 0, y 1, eq_ix2 y⟩
  refine congrArg (rS m c) ?_
  funext a
  apply Fin.ext
  have h0 : win0_2.index t 0 = 0 := by rw [index2]; rfl
  have h1 : win0_2.index t 1 = 0 := by rw [index2]; rfl
  match a with
  | ⟨0, _⟩ => show win0_2.index t 0 * 51 + 1 * r.val = r.val; rw [h0]; omega
  | ⟨1, _⟩ => show win0_2.index t 1 * 62 + 1 * k.val = k.val; rw [h1]; omega

theorem final3 : (dats m 0 c).arrAt 3 cfg0.N = z (rU m c) (rW m c) (rS m c) := by
  refine (dats m 0 c).arrAt_eq_of_covers 3 _ (by decide +kernel) fun t hf y => ?_
  blk_simp
  rw [after0_3, iblk0_eq, iblk1_eq, iblk2_eq, out3_eq]
  refine congrArg (z (rU m c) (rW m c) (rS m c)) ?_
  funext a
  apply Fin.ext
  have e := index3 t
  match a with
  | ⟨0, _⟩ => blk_simp [e]
  | ⟨1, _⟩ => blk_simp [e]

theorem final4 : (dats m 0 c).arrAt 4 cfg0.N = x (rU m c) (rW m c) (rS m c) := by
  refine (dats m 0 c).arrAt_eq_of_covers 4 _ (by decide +kernel) fun t hf y => ?_
  blk_simp
  rw [after0_4, iblk0_eq, iblk1_eq, iblk2_eq, out4_eq]
  refine congrArg (x (rU m c) (rW m c) (rS m c)) ?_
  funext a
  apply Fin.ext
  have e := index4 t
  match a with
  | ⟨0, _⟩ => blk_simp [e]
  | ⟨1, _⟩ => blk_simp [e]

theorem final5 : (dats m 0 c).arrAt 5 cfg0.N = b (rU m c) (rW m c) (rS m c) := by
  refine (dats m 0 c).arrAt_eq_of_covers 5 _ (by decide +kernel) fun t hf y => ?_
  blk_simp
  rw [after0_5, iblk0_eq, iblk1_eq, iblk2_eq, out5_eq]
  refine congrArg (b (rU m c) (rW m c) (rS m c)) ?_
  funext a
  apply Fin.ext
  have e := index5 t
  match a with
  | ⟨0, _⟩ => blk_simp [e]
  | ⟨1, _⟩ => blk_simp [e]

theorem final6 : (dats m 0 c).arrAt 6 cfg0.N = Spec.c (rU m c) (rW m c) (rS m c) := by
  refine (dats m 0 c).arrAt_eq_of_covers 6 _ (by decide +kernel) fun t hf y => ?_
  blk_simp
  rw [after0_6, iblk0_eq, iblk1_eq, iblk2_eq, out6_eq]
  refine congrArg (Spec.c (rU m c) (rW m c) (rS m c)) ?_
  funext a
  apply Fin.ext
  have e := index6 t
  match a with
  | ⟨0, _⟩ => blk_simp [e]
  | ⟨1, _⟩ => blk_simp [e]

theorem final7 : (dats m 0 c).arrAt 7 cfg0.N = dt (rU m c) (rW m c) (rS m c) := by
  refine (dats m 0 c).arrAt_eq_of_covers 7 _ (by decide +kernel) fun t hf y => ?_
  blk_simp
  rw [after0_7, iblk0_eq, iblk1_eq, iblk2_eq, out7_eq]
  refine congrArg (dt (rU m c) (rW m c) (rS m c)) ?_
  funext a
  apply Fin.ext
  have e := index7 t
  match a with
  | ⟨0, _⟩ => blk_simp [e]
  | ⟨1, _⟩ => blk_simp [e]

theorem final8 : (dats m 0 c).arrAt 8 cfg0.N = codes (rU m c) := by
  refine (dats m 0 c).arrAt_eq_of_covers 8 _ (by decide +kernel) fun t hf y => ?_
  blk_simp
  rw [after0_8, iblk0_eq, iblk1_eq, iblk2_eq, out8_eq]
  refine congrArg (codes (rU m c)) ?_
  funext a
  apply Fin.ext
  have e := index8 t
  match a with
  | ⟨0, _⟩ => blk_simp [e]
  | ⟨1, _⟩ => blk_simp [e]

theorem final9 : (dats m 0 c).arrAt 9 cfg0.N = scales (rU m c) := by
  refine (dats m 0 c).arrAt_eq_of_covers 9 _ (by decide +kernel) fun t hf y => ?_
  blk_simp
  rw [after0_9, iblk0_eq, iblk1_eq, iblk2_eq, out9_eq]
  refine congrArg (scales (rU m c)) ?_
  funext a
  apply Fin.ext
  have e := index9 t
  match a with
  | ⟨0, _⟩ => blk_simp [e]
  | ⟨1, _⟩ => blk_simp [e]

/-- The run of the reference: the results are the arrays specified, the arguments are as they were. -/
theorem run_spec : θ_run defs (onTc (τ := τ) (main (F := Ideal))) ⟨m, fun _ => 0, ρ⟩ (fun r => ∀ c : Dev nD,
      r.2.mem ((c.tc : Thread nD τ).loc main_v1_0) = z (rU m c) (rW m c) (rS m c)
      ∧ r.2.mem ((c.tc : Thread nD τ).loc main_v1_1) = x (rU m c) (rW m c) (rS m c)
      ∧ r.2.mem ((c.tc : Thread nD τ).loc main_v1_2) = b (rU m c) (rW m c) (rS m c)
      ∧ r.2.mem ((c.tc : Thread nD τ).loc main_v1_3) = Spec.c (rU m c) (rW m c) (rS m c)
      ∧ r.2.mem ((c.tc : Thread nD τ).loc main_v1_4) = dt (rU m c) (rW m c) (rS m c)
      ∧ r.2.mem ((c.tc : Thread nD τ).loc main_v1_5) = codes (rU m c)
      ∧ r.2.mem ((c.tc : Thread nD τ).loc main_v1_6) = scales (rU m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain ⟨h3, h4, h5, h6, h7, h8, h9, h0, h1, h2⟩ := h c
    exact ⟨h3.trans (final3 m c), h4.trans (final4 m c), h5.trans (final5 m c), h6.trans (final6 m c), h7.trans (final7 m c),
      h8.trans (final8 m c), h9.trans (final9 m c), h0, h1, h2⟩) (Value.run_blocks m ρ)

end arrays

end Cert.ReferenceIdeal.Hand

end
-- ==== Proof.Ideal.Algebraic.lean ====
module

public import proofs.«01_k».proof.Defs
public import proofs.«01_k».proof.Proof.Gen.Pre_u_finite
public import proofs.«01_k».proof.Proof.Ideal.KFinal
public import proofs.«01_k».proof.Proof.Ideal.RFinal

@[expose] public section

set_option maxRecDepth 16384

/-!
The kernel and the reference end with equal results over the extended reals, of a `u` whose elements are finite.
-/

noncomputable section

namespace Cert.Proof

open Idealize.ShloMosaic Idealize.ShloMosaic.TcCoe Idealize.SL.Sem
open Cert.Spec

/-- A 4096 by 7936 array read out of the one of shape 1 by 4096 by 7936. -/
def flat (X : FVec Ideal Cert.KernelIdeal.S1x4096x7936 .bf16) : FVec Ideal Cert.KernelIdeal.S4096x7936 .bf16 :=
  shapeCast Cert.KernelIdeal.S4096x7936 X Cert.KernelIdeal.Gen.facts.shapeCasts_S1x4096x7936_S4096x7936

theorem aU_eq (m : (ℓ : Loc Cert.KernelIdeal.nD Cert.KernelIdeal.τ Cert.KernelIdeal.sig) → Buf (Elt Ideal) ℓ) (c : Dev Cert.KernelIdeal.nD) :
    Cert.KernelIdeal.Hand.aU m c = flat (m ((c.tc : Thread Cert.KernelIdeal.nD Cert.KernelIdeal.τ).loc Cert.KernelIdeal.main_arg0)) := by
  show StableHlo.after (Cert.KernelIdeal.Gen.hostOps0 (F := Ideal)) (fun b => m (c, b)) (Proc.devRef .tc Cert.KernelIdeal.main_v0) = _
  rw [Cert.KernelIdeal.Gen.hostOps0, StableHlo.after_cons, StableHlo.after_nil, StableHlo.reshape_result']
  rfl

theorem rU_eq (m : (ℓ : Loc Cert.ReferenceIdeal.nD Cert.ReferenceIdeal.τ Cert.ReferenceIdeal.sig) → Buf (Elt Ideal) ℓ) (c : Dev Cert.ReferenceIdeal.nD) :
    Cert.ReferenceIdeal.Hand.rU m c = flat (m ((c.tc : Thread Cert.ReferenceIdeal.nD Cert.ReferenceIdeal.τ).loc Cert.ReferenceIdeal.main_arg0)) := by
  show StableHlo.after (Cert.ReferenceIdeal.Gen.hostOps0 (F := Ideal)) (fun b => m (c, b)) (Proc.devRef .tc Cert.ReferenceIdeal.main_v0) = _
  rw [Cert.ReferenceIdeal.Gen.hostOps0, StableHlo.after_cons, StableHlo.after_nil, StableHlo.reshape_result']
  rfl

/-- A comparison that reads one says its operands are in order. -/
theorem le_of_cmp {φ : FTy} (a b : Ideal φ) (h : FloatOps.cmpf .ole a b = 1#1) : (a : EReal) ≤ b := by
  by_contra hn
  have : FloatOps.cmpf .ole a b = 0#1 := by
    show Ideal.cmp .ole a b = 0#1
    simp [Ideal.cmp, hn]
  rw [this] at h
  exact absurd h (by decide)

/-- The precondition read at one element. -/
theorem pre_read (A : FVec Ideal Cert.Pre_u_finite.S1x4096x7936 .bf16) (B : FVec Ideal Cert.Pre_u_finite.S6448x7936 .fp8e4m3)
    (C : FVec Ideal Cert.Pre_u_finite.S51x62 .f32) (h : Cert.Pre_u_finite.fn (F := Ideal) A B C = fun _ => 1#1) (i : Cert.Pre_u_finite.S1x4096x7936.Idx) :
    max (A i : EReal) (-(A i : EReal)) ≤ Ideal.ofBits .bf16 0x7F7F#16 :=
  le_of_cmp (φ := .bf16) _ _ (congrFun h i)

/-- Every block of `u` the kernel reads is of finite elements. -/
theorem small_of_pre (m : (ℓ : Loc Cert.KernelIdeal.nD Cert.KernelIdeal.τ Cert.KernelIdeal.sig) → Buf (Elt Ideal) ℓ) (h : Cert.Pre_KernelIdeal_u_finite m)
    (c : Dev Cert.KernelIdeal.nD) (t : Fin Cert.KernelIdeal.grid0.N) : Cert.KernelIdeal.Hand.BSmall (Cert.KernelIdeal.Gen.iblk m c 1 t) := by
  intro y
  have e : Cert.KernelIdeal.Gen.iblk m c 1 t y = flat (m ((c.tc : Thread Cert.KernelIdeal.nD Cert.KernelIdeal.τ).loc Cert.KernelIdeal.main_arg0)) (ix2 (Cert.KernelIdeal.Hand.grow (Cert.KernelIdeal.Hand.pi t) (y 0)) (y 1)) :=
    (congrArg (Cert.KernelIdeal.Gen.iblk m c 1 t) (eq_ix2 y)).trans
      ((Cert.KernelIdeal.Hand.iblk1_apply m c t (y 0) (y 1)).trans (congrFun (aU_eq m c) _))
  rw [e]
  exact pre_read _ _ _ (h c) _

/-- The two programs' results are equal. -/
theorem algebraic : Cert.algebraic_KernelIdeal_ReferenceIdeal_pre_u_finite (hKernelIdeal := Cert.KernelIdeal.Gen.facts)
    (hReferenceIdeal := Cert.ReferenceIdeal.Gen.facts) (hPre_u_finite := Cert.Pre_u_finite.Gen.facts) := by
  intro m g m' g' hp he
  have eU : ∀ c, Cert.ReferenceIdeal.Hand.rU m' c = Cert.KernelIdeal.Hand.aU m c := fun c =>
    (rU_eq m' c).trans ((congrArg flat (he c).1).trans (aU_eq m c).symm)
  have eW : ∀ c, Cert.ReferenceIdeal.Hand.rW m' c = Cert.KernelIdeal.Hand.aW m c := fun c =>
    (Cert.ReferenceIdeal.Gen.V_main_arg1 m' c).trans ((he c).2.1.trans (Cert.KernelIdeal.Gen.V_main_arg1 m c).symm)
  have eS : ∀ c, Cert.ReferenceIdeal.Hand.rS m' c = Cert.KernelIdeal.Hand.aS m c := fun c =>
    (Cert.ReferenceIdeal.Gen.V_main_arg2 m' c).trans ((he c).2.2.trans (Cert.KernelIdeal.Gen.V_main_arg2 m c).symm)
  refine ⟨_, _, _, _, _, _, _, Cert.KernelIdeal.Hand.run_spec m g (small_of_pre m hp), ?_⟩
  refine (θ_run _ _ _).mono (fun r h c => ?_) (Cert.ReferenceIdeal.Hand.run_spec m' g')
  have hc := h c
  rw [eU c, eW c, eS c] at hc
  exact hc

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_u_finite
public import proofs.«01_k».proof.Proof.Ideal.Frame
public import proofs.«01_k».proof.Proof.Ideal.Algebraic
public import Idealize.ShloMosaic.Adequacy
public import Idealize.ShloMosaic.Init

@[expose] public section

noncomputable section

namespace Cert.Proof

open Idealize.ShloMosaic Idealize.ShloMosaic.TcCoe Idealize.ShloMosaic.Tactic Idealize.SL.Sem

/-- The frame of `KernelIdeal`'s text run at the bit instance. -/
theorem frame_at_bits : ∀ (m : (ℓ : Loc Cert.KernelIdeal.nD Cert.KernelIdeal.τ Cert.KernelIdeal.sig) → Buf (Elt Bits) ℓ) (g : Dev Cert.KernelIdeal.nD → PrngReg), Pre_Kernel m →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  fun m g _ => Cert.KernelIdeal.Hand.frame m g

/-- `Kernel` and `KernelIdeal` are one text, so the frame of the one is the frame of the other. -/
theorem frame_texts : Cert.quiescent_Kernel (hKernel := Cert.Kernel.Gen.facts) = (∀ (m : (ℓ : Loc Cert.KernelIdeal.nD Cert.KernelIdeal.τ Cert.KernelIdeal.sig) → Buf (Elt Bits) ℓ) (g : Dev Cert.KernelIdeal.nD → PrngReg), Pre_Kernel m →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)) := by
  sl_kernel_rfl

theorem claim : Cert.Claim := ⟨Cert.Kernel.Gen.facts, Cert.KernelIdeal.Gen.facts, Cert.ReferenceIdeal.Gen.facts, Cert.Pre_u_finite.Gen.facts,
  frame_texts.mpr frame_at_bits,
  fun m g _ => Cert.KernelIdeal.Hand.frame m g,
  fun m g _ => Cert.KernelIdeal.Hand.frame m g,
  fun m g _ => Cert.ReferenceIdeal.Gen.frame m g,
  fun m g _ => Cert.ReferenceIdeal.Gen.frame m g,
  trivial,
  algebraic⟩

end Cert.Proof

end
